-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_integral [hPre_labels_integral : Cert.Pre_labels_integral.Facts] (m : (ℓ : Loc Cert.KernelIdeal.nD Cert.KernelIdeal.τ Cert.KernelIdeal.sig) → Buf (Elt Ideal) ℓ) : Prop :=
  ∀ c : Dev Cert.KernelIdeal.nD,
    (Cert.Pre_labels_integral.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_integral [hPre_labels_integral : Cert.Pre_labels_integral.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_integral.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_FittedIdeal (m : (ℓ : Loc Cert.FittedIdeal.nD Cert.FittedIdeal.τ Cert.FittedIdeal.sig) → Buf (Elt Ideal) ℓ) : Prop :=
  True

def Pre_FittedIdeal_labels_integral [hPre_labels_integral : Cert.Pre_labels_integral.Facts] (m : (ℓ : Loc Cert.FittedIdeal.nD Cert.FittedIdeal.τ Cert.FittedIdeal.sig) → Buf (Elt Ideal) ℓ) : Prop :=
  ∀ c : Dev Cert.FittedIdeal.nD,
    (Cert.Pre_labels_integral.fn (F := Ideal) (m ((c.tc : Thread Cert.FittedIdeal.nD Cert.FittedIdeal.τ).loc Cert.FittedIdeal.main_arg0)) (m ((c.tc : Thread Cert.FittedIdeal.nD Cert.FittedIdeal.τ).loc Cert.FittedIdeal.main_arg1)) (m ((c.tc : Thread Cert.FittedIdeal.nD Cert.FittedIdeal.τ).loc Cert.FittedIdeal.main_arg2)) (m ((c.tc : Thread Cert.FittedIdeal.nD Cert.FittedIdeal.τ).loc Cert.FittedIdeal.main_arg3)) (m ((c.tc : Thread Cert.FittedIdeal.nD Cert.FittedIdeal.τ).loc Cert.FittedIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_labels_integral [hKernelIdeal : Cert.KernelIdeal.Facts] [hPre_labels_integral : Cert.Pre_labels_integral.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_integral m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_labels_integral [hReferenceIdeal : Cert.ReferenceIdeal.Facts] [hPre_labels_integral : Cert.Pre_labels_integral.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_integral m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FittedIdeal [hFittedIdeal : Cert.FittedIdeal.Facts] : Prop :=
  ∀ (m : (ℓ : Loc Cert.FittedIdeal.nD Cert.FittedIdeal.τ Cert.FittedIdeal.sig) → Buf (Elt Ideal) ℓ) (g : Dev Cert.FittedIdeal.nD → PrngReg), Pre_FittedIdeal m →
    θ_run (Cert.FittedIdeal.defs (F := Ideal)) (onTc (τ := Cert.FittedIdeal.τ) (Cert.FittedIdeal.main (F := Ideal))) ⟨m, fun _ => 0, g⟩ (fun r => (∀ c : Dev Cert.FittedIdeal.nD,
      r.2.mem ((c.tc : Thread Cert.FittedIdeal.nD Cert.FittedIdeal.τ).loc Cert.FittedIdeal.main_arg0) = m ((c.tc : Thread Cert.FittedIdeal.nD Cert.FittedIdeal.τ).loc Cert.FittedIdeal.main_arg0)
      ∧ r.2.mem ((c.tc : Thread Cert.FittedIdeal.nD Cert.FittedIdeal.τ).loc Cert.FittedIdeal.main_arg1) = m ((c.tc : Thread Cert.FittedIdeal.nD Cert.FittedIdeal.τ).loc Cert.FittedIdeal.main_arg1)
      ∧ r.2.mem ((c.tc : Thread Cert.FittedIdeal.nD Cert.FittedIdeal.τ).loc Cert.FittedIdeal.main_arg2) = m ((c.tc : Thread Cert.FittedIdeal.nD Cert.FittedIdeal.τ).loc Cert.FittedIdeal.main_arg2)
      ∧ r.2.mem ((c.tc : Thread Cert.FittedIdeal.nD Cert.FittedIdeal.τ).loc Cert.FittedIdeal.main_arg3) = m ((c.tc : Thread Cert.FittedIdeal.nD Cert.FittedIdeal.τ).loc Cert.FittedIdeal.main_arg3)
      ∧ r.2.mem ((c.tc : Thread Cert.FittedIdeal.nD Cert.FittedIdeal.τ).loc Cert.FittedIdeal.main_arg4) = m ((c.tc : Thread Cert.FittedIdeal.nD Cert.FittedIdeal.τ).loc Cert.FittedIdeal.main_arg4))
      ∧ r.2.sem = fun _ => 0)

def quiescent_FittedIdeal_pre_labels_integral [hFittedIdeal : Cert.FittedIdeal.Facts] [hPre_labels_integral : Cert.Pre_labels_integral.Facts] : Prop :=
  ∀ (m : (ℓ : Loc Cert.FittedIdeal.nD Cert.FittedIdeal.τ Cert.FittedIdeal.sig) → Buf (Elt Ideal) ℓ) (g : Dev Cert.FittedIdeal.nD → PrngReg), Pre_FittedIdeal_labels_integral m →
    θ_run (Cert.FittedIdeal.defs (F := Ideal)) (onTc (τ := Cert.FittedIdeal.τ) (Cert.FittedIdeal.main (F := Ideal))) ⟨m, fun _ => 0, g⟩ (fun r => (∀ c : Dev Cert.FittedIdeal.nD,
      r.2.mem ((c.tc : Thread Cert.FittedIdeal.nD Cert.FittedIdeal.τ).loc Cert.FittedIdeal.main_arg0) = m ((c.tc : Thread Cert.FittedIdeal.nD Cert.FittedIdeal.τ).loc Cert.FittedIdeal.main_arg0)
      ∧ r.2.mem ((c.tc : Thread Cert.FittedIdeal.nD Cert.FittedIdeal.τ).loc Cert.FittedIdeal.main_arg1) = m ((c.tc : Thread Cert.FittedIdeal.nD Cert.FittedIdeal.τ).loc Cert.FittedIdeal.main_arg1)
      ∧ r.2.mem ((c.tc : Thread Cert.FittedIdeal.nD Cert.FittedIdeal.τ).loc Cert.FittedIdeal.main_arg2) = m ((c.tc : Thread Cert.FittedIdeal.nD Cert.FittedIdeal.τ).loc Cert.FittedIdeal.main_arg2)
      ∧ r.2.mem ((c.tc : Thread Cert.FittedIdeal.nD Cert.FittedIdeal.τ).loc Cert.FittedIdeal.main_arg3) = m ((c.tc : Thread Cert.FittedIdeal.nD Cert.FittedIdeal.τ).loc Cert.FittedIdeal.main_arg3)
      ∧ r.2.mem ((c.tc : Thread Cert.FittedIdeal.nD Cert.FittedIdeal.τ).loc Cert.FittedIdeal.main_arg4) = m ((c.tc : Thread Cert.FittedIdeal.nD Cert.FittedIdeal.τ).loc Cert.FittedIdeal.main_arg4))
      ∧ r.2.sem = fun _ => 0)

def preserves_Kernel_KernelIdeal : Prop :=
  True

def algebraic_KernelIdeal_ReferenceIdeal_on_without_waves_pre_labels_integral [hKernelIdeal : Cert.KernelIdeal.Facts] [hReferenceIdeal : Cert.ReferenceIdeal.Facts] [hPre_labels_integral : Cert.Pre_labels_integral.Facts] [hOn_without_waves : Cert.On_without_waves.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_integral m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![1024, 200, 256]⟩ : Shape).Idx, (Cert.On_without_waves.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v5) i = v0 c i)
          ∧ (∀ i : (⟨2, ![1024, 200]⟩ : Shape).Idx, (Cert.On_without_waves.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.KernelIdeal.nD Cert.KernelIdeal.τ).loc Cert.KernelIdeal.main_v6) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![1024, 200, 256]⟩ : Shape).Idx, (Cert.On_without_waves.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v162) i = v0 c i)
          ∧ (∀ i : (⟨2, ![1024, 200]⟩ : Shape).Idx, (Cert.On_without_waves.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.ReferenceIdeal.nD Cert.ReferenceIdeal.τ).loc Cert.ReferenceIdeal.main_v165) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def algebraic_KernelIdeal_FittedIdeal_pre_labels_integral [hKernelIdeal : Cert.KernelIdeal.Facts] [hFittedIdeal : Cert.FittedIdeal.Facts] [hPre_labels_integral : Cert.Pre_labels_integral.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.FittedIdeal.nD Cert.FittedIdeal.τ Cert.FittedIdeal.sig) → Buf (Elt Ideal) ℓ) (g' : Dev Cert.FittedIdeal.nD → PrngReg), Pre_KernelIdeal_labels_integral m →
    (∀ c : Dev Cert.KernelIdeal.nD,
      m' ((c.tc : Thread Cert.FittedIdeal.nD Cert.FittedIdeal.τ).loc Cert.FittedIdeal.main_arg0) = m ((c.tc : Thread Cert.KernelIdeal.nD Cert.KernelIdeal.τ).loc Cert.KernelIdeal.main_arg0)
      ∧ m' ((c.tc : Thread Cert.FittedIdeal.nD Cert.FittedIdeal.τ).loc Cert.FittedIdeal.main_arg1) = m ((c.tc : Thread Cert.KernelIdeal.nD Cert.KernelIdeal.τ).loc Cert.KernelIdeal.main_arg1)
      ∧ m' ((c.tc : Thread Cert.FittedIdeal.nD Cert.FittedIdeal.τ).loc Cert.FittedIdeal.main_arg2) = m ((c.tc : Thread Cert.KernelIdeal.nD Cert.KernelIdeal.τ).loc Cert.KernelIdeal.main_arg2)
      ∧ m' ((c.tc : Thread Cert.FittedIdeal.nD Cert.FittedIdeal.τ).loc Cert.FittedIdeal.main_arg3) = m ((c.tc : Thread Cert.KernelIdeal.nD Cert.KernelIdeal.τ).loc Cert.KernelIdeal.main_arg3)
      ∧ m' ((c.tc : Thread Cert.FittedIdeal.nD Cert.FittedIdeal.τ).loc Cert.FittedIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.FittedIdeal.defs (F := Ideal)) (onTc (τ := Cert.FittedIdeal.τ) (Cert.FittedIdeal.main (F := Ideal))) ⟨m', fun _ => 0, g'⟩ (fun r => ∀ c : Dev Cert.FittedIdeal.nD,
          r.2.mem ((c.tc : Thread Cert.FittedIdeal.nD Cert.FittedIdeal.τ).loc Cert.FittedIdeal.main_v184) = v0 c
          ∧ r.2.mem ((c.tc : Thread Cert.FittedIdeal.nD Cert.FittedIdeal.τ).loc Cert.FittedIdeal.main_v187) = v1 c
          ∧ r.2.mem ((c.tc : Thread Cert.FittedIdeal.nD Cert.FittedIdeal.τ).loc Cert.FittedIdeal.main_arg0) = m' ((c.tc : Thread Cert.FittedIdeal.nD Cert.FittedIdeal.τ).loc Cert.FittedIdeal.main_arg0)
          ∧ r.2.mem ((c.tc : Thread Cert.FittedIdeal.nD Cert.FittedIdeal.τ).loc Cert.FittedIdeal.main_arg1) = m' ((c.tc : Thread Cert.FittedIdeal.nD Cert.FittedIdeal.τ).loc Cert.FittedIdeal.main_arg1)
          ∧ r.2.mem ((c.tc : Thread Cert.FittedIdeal.nD Cert.FittedIdeal.τ).loc Cert.FittedIdeal.main_arg2) = m' ((c.tc : Thread Cert.FittedIdeal.nD Cert.FittedIdeal.τ).loc Cert.FittedIdeal.main_arg2)
          ∧ r.2.mem ((c.tc : Thread Cert.FittedIdeal.nD Cert.FittedIdeal.τ).loc Cert.FittedIdeal.main_arg3) = m' ((c.tc : Thread Cert.FittedIdeal.nD Cert.FittedIdeal.τ).loc Cert.FittedIdeal.main_arg3)
          ∧ r.2.mem ((c.tc : Thread Cert.FittedIdeal.nD Cert.FittedIdeal.τ).loc Cert.FittedIdeal.main_arg4) = m' ((c.tc : Thread Cert.FittedIdeal.nD Cert.FittedIdeal.τ).loc Cert.FittedIdeal.main_arg4))

def holds_KernelIdeal_near_reference_pre_inputs_finite [hKernelIdeal : Cert.KernelIdeal.Facts] [hPre_inputs_finite : Cert.Pre_inputs_finite.Facts] [hPost_near_reference : Cert.Post_near_reference.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ (Cert.Post_near_reference.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v5)) (r.2.mem ((c.tc : Thread Cert.KernelIdeal.nD Cert.KernelIdeal.τ).loc Cert.KernelIdeal.main_v6))).1 = (fun _ => 1#1)
      ∧ (Cert.Post_near_reference.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v5)) (r.2.mem ((c.tc : Thread Cert.KernelIdeal.nD Cert.KernelIdeal.τ).loc Cert.KernelIdeal.main_v6))).2 = (fun _ => 1#1))

def Claim : Prop :=
  ∃ (hKernel : Cert.Kernel.Facts) (hKernelIdeal : Cert.KernelIdeal.Facts) (hReferenceIdeal : Cert.ReferenceIdeal.Facts) (hFittedIdeal : Cert.FittedIdeal.Facts) (hPre_labels_integral : Cert.Pre_labels_integral.Facts) (hPre_inputs_finite : Cert.Pre_inputs_finite.Facts) (hPost_near_reference : Cert.Post_near_reference.Facts) (hOn_without_waves : Cert.On_without_waves.Facts),
    quiescent_Kernel (hKernel := hKernel)
    ∧ quiescent_KernelIdeal (hKernelIdeal := hKernelIdeal)
    ∧ quiescent_KernelIdeal_pre_labels_integral (hKernelIdeal := hKernelIdeal) (hPre_labels_integral := hPre_labels_integral)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_labels_integral (hReferenceIdeal := hReferenceIdeal) (hPre_labels_integral := hPre_labels_integral)
    ∧ quiescent_FittedIdeal (hFittedIdeal := hFittedIdeal)
    ∧ quiescent_FittedIdeal_pre_labels_integral (hFittedIdeal := hFittedIdeal) (hPre_labels_integral := hPre_labels_integral)
    ∧ preserves_Kernel_KernelIdeal
    ∧ algebraic_KernelIdeal_ReferenceIdeal_on_without_waves_pre_labels_integral (hKernelIdeal := hKernelIdeal) (hReferenceIdeal := hReferenceIdeal) (hPre_labels_integral := hPre_labels_integral) (hOn_without_waves := hOn_without_waves)
    ∧ algebraic_KernelIdeal_FittedIdeal_pre_labels_integral (hKernelIdeal := hKernelIdeal) (hFittedIdeal := hFittedIdeal) (hPre_labels_integral := hPre_labels_integral)
    ∧ holds_KernelIdeal_near_reference_pre_inputs_finite (hKernelIdeal := hKernelIdeal) (hPre_inputs_finite := hPre_inputs_finite) (hPost_near_reference := hPost_near_reference)
-- ==== On_without_waves.lean ====
abbrev S1024x200x3 : Shape := ⟨3, ![1024, 200, 3]⟩
abbrev S2x128 : Shape := ⟨2, ![2, 128]⟩
abbrev S17x256 : Shape := ⟨2, ![17, 256]⟩
abbrev S256 : Shape := ⟨1, ![256]⟩
abbrev S1024x200x1 : Shape := ⟨3, ![1024, 200, 1]⟩
abbrev S1024x200 : Shape := ⟨2, ![1024, 200]⟩
abbrev S_ : Shape := ⟨0, ![]⟩
abbrev S1024x200x256 : Shape := ⟨3, ![1024, 200, 256]⟩

class Facts : Prop where
  slices_S1024x200x3_S1024x200x1_0_0_2 : S1024x200x3.Slices ![0, 0, 2] S1024x200x1
  shapeCasts_S1024x200x1_S1024x200 : S1024x200x1.ShapeCasts S1024x200
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  bcast_S1024x200x1_S1024x200x256_0_1_2 : S1024x200x1.BroadcastsInDim S1024x200x256 (![0, 1, 2] : Fin 3 → Fin S1024x200x256.rank)

variable [Facts]

def fn {F : FTy → Type} [FloatOps F] (main_arg0 : FVec F S1024x200x3 .f32) (main_arg1 : FVec F S2x128 .f32) (main_arg2 : FVec F S17x256 .f32) (main_arg3 : FVec F S256 .f32) (main_arg4 : FVec F S256 .f32) : IVec S1024x200x256 1 × IVec S1024x200 1 :=
  let main_v0 : FVec F S1024x200x1 .f32 := (extractStridedSlice S1024x200x1 ![0, 0, 2] · slices_S1024x200x3_S1024x200x1_0_0_2) main_arg0
  let main_v1 : FVec F S1024x200 .f32 := shapeCast S1024x200 main_v0 shapeCasts_S1024x200x1_S1024x200
  let main_cst : FVec F S_ .f32 := constant S_ .f32 0x00000000#32
  let main_v2 : FVec F S1024x200 .f32 := broadcastInDim S1024x200 ![] bcast_S_S1024x200 main_cst
  let main_v3 : IVec S1024x200 1 := cmpf .olt main_v1 main_v2
  let main_v4 : IVec S1024x200x1 1 := broadcastInDim S1024x200x1 ![0, 1] bcast_S1024x200_S1024x200x1_0_1 main_v3
  let main_v5 : IVec S1024x200x256 1 := broadcastInDim S1024x200x256 ![0, 1, 2] bcast_S1024x200x1_S1024x200x256_0_1_2 main_v4
  let main_v6 : IVec S1024x200 1 := cmpf .oeq main_v1 main_v1
  (main_v5, main_v6)
-- ==== Post_near_reference.lean ====
abbrev S1024x200x3 : Shape := ⟨3, ![1024, 200, 3]⟩
abbrev S2x128 : Shape := ⟨2, ![2, 128]⟩
abbrev S17x256 : Shape := ⟨2, ![17, 256]⟩
abbrev S256 : Shape := ⟨1, ![256]⟩
abbrev S1024x200x256 : Shape := ⟨3, ![1024, 200, 256]⟩
abbrev S1024x200 : Shape := ⟨2, ![1024, 200]⟩
abbrev S_ : Shape := ⟨0, ![]⟩
abbrev S1024x200x2 : Shape := ⟨3, ![1024, 200, 2]⟩
abbrev S1024x200x1 : Shape := ⟨3, ![1024, 200, 1]⟩
abbrev S1024x200x128 : Shape := ⟨3, ![1024, 200, 128]⟩
abbrev S1x1x256 : Shape := ⟨3, ![1, 1, 256]⟩
abbrev S1x256 : Shape := ⟨2, ![1, 256]⟩

class Facts : Prop where
  slices_S1024x200x3_S1024x200x2_0_0_0 : S1024x200x3.Slices ![0, 0, 0] S1024x200x2
  slices_S1024x200x3_S1024x200x1_0_0_2 : S1024x200x3.Slices ![0, 0, 2] S1024x200x1
  shapeCasts_S1024x200x1_S1024x200 : S1024x200x1.ShapeCasts S1024x200
  bcast_S_S1024x200x2 : S_.BroadcastsInDim S1024x200x2 (![] : Fin 0 → Fin S1024x200x2.rank)
  bcast_S_S1024x200x128 : S_.BroadcastsInDim S1024x200x128 (![] : Fin 0 → Fin S1024x200x128.rank)
  concatenates_S1024x200x128_S1024x200x128_S1024x200x256_d2 : Shape.Concatenates [S1024x200x128, S1024x200x128] S1024x200x256 2
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  bcast_S256_S1x1x256_2 : S256.BroadcastsInDim S1x1x256 (![2] : Fin 1 → Fin S1x1x256.rank)
  bcast_S1024x200x1_S1024x200x256_0_1_2 : S1024x200x1.BroadcastsInDim S1024x200x256 (![0, 1, 2] : Fin 3 → Fin S1024x200x256.rank)
  bcast_S1x1x256_S1024x200x256_0_1_2 : S1x1x256.BroadcastsInDim S1024x200x256 (![0, 1, 2] : Fin 3 → Fin S1024x200x256.rank)
  slices_S17x256_S1x256_0_0 : S17x256.Slices ![0, 0] S1x256
  shapeCasts_S1x256_S256 : S1x256.ShapeCasts S256
  bcast_S_S1024x200x256 : S_.BroadcastsInDim S1024x200x256 (![] : Fin 0 → Fin S1024x200x256.rank)
  slices_S17x256_S1x256_1_0 : S17x256.Slices ![1, 0] S1x256
  slices_S17x256_S1x256_2_0 : S17x256.Slices ![2, 0] S1x256
  slices_S17x256_S1x256_3_0 : S17x256.Slices ![3, 0] S1x256
  slices_S17x256_S1x256_4_0 : S17x256.Slices ![4, 0] S1x256
  slices_S17x256_S1x256_5_0 : S17x256.Slices ![5, 0] S1x256
  slices_S17x256_S1x256_6_0 : S17x256.Slices ![6, 0] S1x256
  slices_S17x256_S1x256_7_0 : S17x256.Slices ![7, 0] S1x256
  slices_S17x256_S1x256_8_0 : S17x256.Slices ![8, 0] S1x256
  slices_S17x256_S1x256_9_0 : S17x256.Slices ![9, 0] S1x256
  slices_S17x256_S1x256_10_0 : S17x256.Slices ![10, 0] S1x256
  slices_S17x256_S1x256_11_0 : S17x256.Slices ![11, 0] S1x256
  slices_S17x256_S1x256_12_0 : S17x256.Slices ![12, 0] S1x256
  slices_S17x256_S1x256_13_0 : S17x256.Slices ![13, 0] S1x256
  slices_S17x256_S1x256_14_0 : S17x256.Slices ![14, 0] S1x256
  slices_S17x256_S1x256_15_0 : S17x256.Slices ![15, 0] S1x256
  slices_S17x256_S1x256_16_0 : S17x256.Slices ![16, 0] S1x256
  dot_S1024x200x2_S2x128_S1024x200x128_2_0_01_1_n_n_wf : DotDims.WF S1024x200x2 S2x128 S1024x200x128 [2] [0] [0, 1] [1] [] []

variable [Facts]

def dot_S1024x200x2_S2x128_S1024x200x128_2_0_01_1_n_n : DotDims S1024x200x2 S2x128 S1024x200x128 where
  lhsContracting := [2]
  rhsContracting := [0]
  lhsNonContracting := [0, 1]
  rhsNonContracting := [1]
  lhsBatch := []
  rhsBatch := []
  wf := dot_S1024x200x2_S2x128_S1024x200x128_2_0_01_1_n_n_wf
def fn_where {F : FTy → Type} [FloatOps F] (arg0 : IVec S1024x200x1 1) (arg1 : FVec F S1x1x256 .f32) (arg2 : FVec F S1024x200x256 .f32) : FVec F S1024x200x256 .f32 :=
  let v0 : IVec S1024x200x256 1 := broadcastInDim S1024x200x256 ![0, 1, 2] bcast_S1024x200x1_S1024x200x256_0_1_2 arg0
  let v1 : FVec F S1024x200x256 .f32 := broadcastInDim S1024x200x256 ![0, 1, 2] bcast_S1x1x256_S1024x200x256_0_1_2 arg1
  let v2 : FVec F S1024x200x256 .f32 := select v0 v1 arg2
  v2

def fn_where_0 {F : FTy → Type} [FloatOps F] (arg0 : IVec S1024x200x1 1) (arg1 : FVec F S1x1x256 .f32) (arg2 : FVec F S_ .f32) : FVec F S1024x200x256 .f32 :=
  let v0 : FVec F S_ .f32 := id arg2
  let v1 : IVec S1024x200x256 1 := broadcastInDim S1024x200x256 ![0, 1, 2] bcast_S1024x200x1_S1024x200x256_0_1_2 arg0
  let v2 : FVec F S1024x200x256 .f32 := broadcastInDim S1024x200x256 ![0, 1, 2] bcast_S1x1x256_S1024x200x256_0_1_2 arg1
  let v3 : FVec F S1024x200x256 .f32 := broadcastInDim S1024x200x256 ![] bcast_S_S1024x200x256 v0
  let v4 : FVec F S1024x200x256 .f32 := select v1 v2 v3
  v4

def fn_part9 {F : FTy → Type} [FloatOps F] (main_arg6 : FVec F S1024x200 .f32) (main_v165 : FVec F S1024x200 .f32) (main_v172 : IVec S1024x200x256 1) : IVec S1024x200x256 1 × IVec S1024x200 1 :=
  let main_v173 : IVec S1024x200 1 := cmpf .oeq main_arg6 main_v165
  (main_v172, main_v173)

def fn_part8 {F : FTy → Type} [FloatOps F] (main_arg2 : FVec F S17x256 .f32) (main_arg5 : FVec F S1024x200x256 .f32) (main_arg6 : FVec F S1024x200 .f32) (main_v4 : FVec F S1024x200 .f32) (main_v146 : FVec F S1024x200x256 .f32) (main_v153 : FVec F S1024x200x256 .f32) : IVec S1024x200x256 1 × IVec S1024x200 1 :=
  let main_v154 : FVec F S1024x200x256 .f32 := addf main_v146 main_v153
  let main_cst_37 : FVec F S_ .f32 := constant S_ .f32 0x41800000#32
  let main_v155 : FVec F S1024x200 .f32 := broadcastInDim S1024x200 ![] bcast_S_S1024x200 main_cst_37
  let main_v156 : IVec S1024x200 1 := cmpf .oeq main_v4 main_v155
  let main_v157 : IVec S1024x200x1 1 := broadcastInDim S1024x200x1 ![0, 1] bcast_S1024x200_S1024x200x1_0_1 main_v156
  let main_v158 : FVec F S1x256 .f32 := (extractStridedSlice S1x256 ![16, 0] · slices_S17x256_S1x256_16_0) main_arg2
  let main_v159 : FVec F S256 .f32 := shapeCast S256 main_v158 shapeCasts_S1x256_S256
  let main_v160 : FVec F S1x1x256 .f32 := broadcastInDim S1x1x256 ![2] bcast_S256_S1x1x256_2 main_v159
  let main_cst_38 : FVec F S_ .f32 := constant S_ .f32 0x00000000#32
  let main_v161 : FVec F S1024x200x256 .f32 := fn_where_0 (F := F) main_v157 main_v160 main_cst_38
  let main_v162 : FVec F S1024x200x256 .f32 := addf main_v154 main_v161
  let main_cst_39 : FVec F S_ .f32 := constant S_ .f32 0xC0000000#32
  let main_v163 : FVec F S1024x200 .f32 := broadcastInDim S1024x200 ![] bcast_S_S1024x200 main_cst_39
  let main_v164 : IVec S1024x200 1 := cmpf .ogt main_v4 main_v163
  let main_v165 : FVec F S1024x200 .f32 := uitofp .f32 main_v164
  let main_cst_40 : FVec F S_ .f32 := constant S_ .f32 0x3A03126F#32
  let main_v166 : FVec F S1024x200x256 .f32 := broadcastInDim S1024x200x256 ![] bcast_S_S1024x200x256 main_cst_40
  let main_v167 : FVec F S1024x200x256 .f32 := addf main_v162 main_v166
  let main_v168 : IVec S1024x200x256 1 := cmpf .ole main_arg5 main_v167
  let main_cst_41 : FVec F S_ .f32 := constant S_ .f32 0x3A03126F#32
  let main_v169 : FVec F S1024x200x256 .f32 := broadcastInDim S1024x200x256 ![] bcast_S_S1024x200x256 main_cst_41
  let main_v170 : FVec F S1024x200x256 .f32 := addf main_arg5 main_v169
  let main_v171 : IVec S1024x200x256 1 := cmpf .ole main_v162 main_v170
  let main_v172 : IVec S1024x200x256 1 := andi main_v168 main_v171
  fn_part9 (F := F) main_arg6 main_v165 main_v172

def fn_part7 {F : FTy → Type} [FloatOps F] (main_arg2 : FVec F S17x256 .f32) (main_arg5 : FVec F S1024x200x256 .f32) (main_arg6 : FVec F S1024x200 .f32) (main_v4 : FVec F S1024x200 .f32) (main_v130 : FVec F S1024x200x256 .f32) (main_v133 : IVec S1024x200x1 1) (main_v134 : FVec F S1x256 .f32) : IVec S1024x200x256 1 × IVec S1024x200 1 :=
  let main_v135 : FVec F S256 .f32 := shapeCast S256 main_v134 shapeCasts_S1x256_S256
  let main_v136 : FVec F S1x1x256 .f32 := broadcastInDim S1x1x256 ![2] bcast_S256_S1x1x256_2 main_v135
  let main_cst_32 : FVec F S_ .f32 := constant S_ .f32 0x00000000#32
  let main_v137 : FVec F S1024x200x256 .f32 := fn_where_0 (F := F) main_v133 main_v136 main_cst_32
  let main_v138 : FVec F S1024x200x256 .f32 := addf main_v130 main_v137
  let main_cst_33 : FVec F S_ .f32 := constant S_ .f32 0x41600000#32
  let main_v139 : FVec F S1024x200 .f32 := broadcastInDim S1024x200 ![] bcast_S_S1024x200 main_cst_33
  let main_v140 : IVec S1024x200 1 := cmpf .oeq main_v4 main_v139
  let main_v141 : IVec S1024x200x1 1 := broadcastInDim S1024x200x1 ![0, 1] bcast_S1024x200_S1024x200x1_0_1 main_v140
  let main_v142 : FVec F S1x256 .f32 := (extractStridedSlice S1x256 ![14, 0] · slices_S17x256_S1x256_14_0) main_arg2
  let main_v143 : FVec F S256 .f32 := shapeCast S256 main_v142 shapeCasts_S1x256_S256
  let main_v144 : FVec F S1x1x256 .f32 := broadcastInDim S1x1x256 ![2] bcast_S256_S1x1x256_2 main_v143
  let main_cst_34 : FVec F S_ .f32 := constant S_ .f32 0x00000000#32
  let main_v145 : FVec F S1024x200x256 .f32 := fn_where_0 (F := F) main_v141 main_v144 main_cst_34
  let main_v146 : FVec F S1024x200x256 .f32 := addf main_v138 main_v145
  let main_cst_35 : FVec F S_ .f32 := constant S_ .f32 0x41700000#32
  let main_v147 : FVec F S1024x200 .f32 := broadcastInDim S1024x200 ![] bcast_S_S1024x200 main_cst_35
  let main_v148 : IVec S1024x200 1 := cmpf .oeq main_v4 main_v147
  let main_v149 : IVec S1024x200x1 1 := broadcastInDim S1024x200x1 ![0, 1] bcast_S1024x200_S1024x200x1_0_1 main_v148
  let main_v150 : FVec F S1x256 .f32 := (extractStridedSlice S1x256 ![15, 0] · slices_S17x256_S1x256_15_0) main_arg2
  let main_v151 : FVec F S256 .f32 := shapeCast S256 main_v150 shapeCasts_S1x256_S256
  let main_v152 : FVec F S1x1x256 .f32 := broadcastInDim S1x1x256 ![2] bcast_S256_S1x1x256_2 main_v151
  let main_cst_36 : FVec F S_ .f32 := constant S_ .f32 0x00000000#32
  let main_v153 : FVec F S1024x200x256 .f32 := fn_where_0 (F := F) main_v149 main_v152 main_cst_36
  fn_part8 (F := F) main_arg2 main_arg5 main_arg6 main_v4 main_v146 main_v153

def fn_part6 {F : FTy → Type} [FloatOps F] (main_arg2 : FVec F S17x256 .f32) (main_arg5 : FVec F S1024x200x256 .f32) (main_arg6 : FVec F S1024x200 .f32) (main_v4 : FVec F S1024x200 .f32) (main_v114 : FVec F S1024x200x256 .f32) (main_cst_27 : FVec F S_ .f32) : IVec S1024x200x256 1 × IVec S1024x200 1 :=
  let main_v115 : FVec F S1024x200 .f32 := broadcastInDim S1024x200 ![] bcast_S_S1024x200 main_cst_27
  let main_v116 : IVec S1024x200 1 := cmpf .oeq main_v4 main_v115
  let main_v117 : IVec S1024x200x1 1 := broadcastInDim S1024x200x1 ![0, 1] bcast_S1024x200_S1024x200x1_0_1 main_v116
  let main_v118 : FVec F S1x256 .f32 := (extractStridedSlice S1x256 ![11, 0] · slices_S17x256_S1x256_11_0) main_arg2
  let main_v119 : FVec F S256 .f32 := shapeCast S256 main_v118 shapeCasts_S1x256_S256
  let main_v120 : FVec F S1x1x256 .f32 := broadcastInDim S1x1x256 ![2] bcast_S256_S1x1x256_2 main_v119
  let main_cst_28 : FVec F S_ .f32 := constant S_ .f32 0x00000000#32
  let main_v121 : FVec F S1024x200x256 .f32 := fn_where_0 (F := F) main_v117 main_v120 main_cst_28
  let main_v122 : FVec F S1024x200x256 .f32 := addf main_v114 main_v121
  let main_cst_29 : FVec F S_ .f32 := constant S_ .f32 0x41400000#32
  let main_v123 : FVec F S1024x200 .f32 := broadcastInDim S1024x200 ![] bcast_S_S1024x200 main_cst_29
  let main_v124 : IVec S1024x200 1 := cmpf .oeq main_v4 main_v123
  let main_v125 : IVec S1024x200x1 1 := broadcastInDim S1024x200x1 ![0, 1] bcast_S1024x200_S1024x200x1_0_1 main_v124
  let main_v126 : FVec F S1x256 .f32 := (extractStridedSlice S1x256 ![12, 0] · slices_S17x256_S1x256_12_0) main_arg2
  let main_v127 : FVec F S256 .f32 := shapeCast S256 main_v126 shapeCasts_S1x256_S256
  let main_v128 : FVec F S1x1x256 .f32 := broadcastInDim S1x1x256 ![2] bcast_S256_S1x1x256_2 main_v127
  let main_cst_30 : FVec F S_ .f32 := constant S_ .f32 0x00000000#32
  let main_v129 : FVec F S1024x200x256 .f32 := fn_where_0 (F := F) main_v125 main_v128 main_cst_30
  let main_v130 : FVec F S1024x200x256 .f32 := addf main_v122 main_v129
  let main_cst_31 : FVec F S_ .f32 := constant S_ .f32 0x41500000#32
  let main_v131 : FVec F S1024x200 .f32 := broadcastInDim S1024x200 ![] bcast_S_S1024x200 main_cst_31
  let main_v132 : IVec S1024x200 1 := cmpf .oeq main_v4 main_v131
  let main_v133 : IVec S1024x200x1 1 := broadcastInDim S1024x200x1 ![0, 1] bcast_S1024x200_S1024x200x1_0_1 main_v132
  let main_v134 : FVec F S1x256 .f32 := (extractStridedSlice S1x256 ![13, 0] · slices_S17x256_S1x256_13_0) main_arg2
  fn_part7 (F := F) main_arg2 main_arg5 main_arg6 main_v4 main_v130 main_v133 main_v134

def fn_part5 {F : FTy → Type} [FloatOps F] (main_arg2 : FVec F S17x256 .f32) (main_arg5 : FVec F S1024x200x256 .f32) (main_arg6 : FVec F S1024x200 .f32) (main_v4 : FVec F S1024x200 .f32) (main_v90 : FVec F S1024x200x256 .f32) (main_v93 : IVec S1024x200x1 1) (main_v96 : FVec F S1x1x256 .f32) : IVec S1024x200x256 1 × IVec S1024x200 1 :=
  let main_cst_22 : FVec F S_ .f32 := constant S_ .f32 0x00000000#32
  let main_v97 : FVec F S1024x200x256 .f32 := fn_where_0 (F := F) main_v93 main_v96 main_cst_22
  let main_v98 : FVec F S1024x200x256 .f32 := addf main_v90 main_v97
  let main_cst_23 : FVec F S_ .f32 := constant S_ .f32 0x41100000#32
  let main_v99 : FVec F S1024x200 .f32 := broadcastInDim S1024x200 ![] bcast_S_S1024x200 main_cst_23
  let main_v100 : IVec S1024x200 1 := cmpf .oeq main_v4 main_v99
  let main_v101 : IVec S1024x200x1 1 := broadcastInDim S1024x200x1 ![0, 1] bcast_S1024x200_S1024x200x1_0_1 main_v100
  let main_v102 : FVec F S1x256 .f32 := (extractStridedSlice S1x256 ![9, 0] · slices_S17x256_S1x256_9_0) main_arg2
  let main_v103 : FVec F S256 .f32 := shapeCast S256 main_v102 shapeCasts_S1x256_S256
  let main_v104 : FVec F S1x1x256 .f32 := broadcastInDim S1x1x256 ![2] bcast_S256_S1x1x256_2 main_v103
  let main_cst_24 : FVec F S_ .f32 := constant S_ .f32 0x00000000#32
  let main_v105 : FVec F S1024x200x256 .f32 := fn_where_0 (F := F) main_v101 main_v104 main_cst_24
  let main_v106 : FVec F S1024x200x256 .f32 := addf main_v98 main_v105
  let main_cst_25 : FVec F S_ .f32 := constant S_ .f32 0x41200000#32
  let main_v107 : FVec F S1024x200 .f32 := broadcastInDim S1024x200 ![] bcast_S_S1024x200 main_cst_25
  let main_v108 : IVec S1024x200 1 := cmpf .oeq main_v4 main_v107
  let main_v109 : IVec S1024x200x1 1 := broadcastInDim S1024x200x1 ![0, 1] bcast_S1024x200_S1024x200x1_0_1 main_v108
  let main_v110 : FVec F S1x256 .f32 := (extractStridedSlice S1x256 ![10, 0] · slices_S17x256_S1x256_10_0) main_arg2
  let main_v111 : FVec F S256 .f32 := shapeCast S256 main_v110 shapeCasts_S1x256_S256
  let main_v112 : FVec F S1x1x256 .f32 := broadcastInDim S1x1x256 ![2] bcast_S256_S1x1x256_2 main_v111
  let main_cst_26 : FVec F S_ .f32 := constant S_ .f32 0x00000000#32
  let main_v113 : FVec F S1024x200x256 .f32 := fn_where_0 (F := F) main_v109 main_v112 main_cst_26
  let main_v114 : FVec F S1024x200x256 .f32 := addf main_v106 main_v113
  let main_cst_27 : FVec F S_ .f32 := constant S_ .f32 0x41300000#32
  fn_part6 (F := F) main_arg2 main_arg5 main_arg6 main_v4 main_v114 main_cst_27

def fn_part4 {F : FTy → Type} [FloatOps F] (main_arg2 : FVec F S17x256 .f32) (main_arg5 : FVec F S1024x200x256 .f32) (main_arg6 : FVec F S1024x200 .f32) (main_v4 : FVec F S1024x200 .f32) (main_v74 : FVec F S1024x200x256 .f32) (main_v76 : IVec S1024x200 1) : IVec S1024x200x256 1 × IVec S1024x200 1 :=
  let main_v77 : IVec S1024x200x1 1 := broadcastInDim S1024x200x1 ![0, 1] bcast_S1024x200_S1024x200x1_0_1 main_v76
  let main_v78 : FVec F S1x256 .f32 := (extractStridedSlice S1x256 ![6, 0] · slices_S17x256_S1x256_6_0) main_arg2
  let main_v79 : FVec F S256 .f32 := shapeCast S256 main_v78 shapeCasts_S1x256_S256
  let main_v80 : FVec F S1x1x256 .f32 := broadcastInDim S1x1x256 ![2] bcast_S256_S1x1x256_2 main_v79
  let main_cst_18 : FVec F S_ .f32 := constant S_ .f32 0x00000000#32
  let main_v81 : FVec F S1024x200x256 .f32 := fn_where_0 (F := F) main_v77 main_v80 main_cst_18
  let main_v82 : FVec F S1024x200x256 .f32 := addf main_v74 main_v81
  let main_cst_19 : FVec F S_ .f32 := constant S_ .f32 0x40E00000#32
  let main_v83 : FVec F S1024x200 .f32 := broadcastInDim S1024x200 ![] bcast_S_S1024x200 main_cst_19
  let main_v84 : IVec S1024x200 1 := cmpf .oeq main_v4 main_v83
  let main_v85 : IVec S1024x200x1 1 := broadcastInDim S1024x200x1 ![0, 1] bcast_S1024x200_S1024x200x1_0_1 main_v84
  let main_v86 : FVec F S1x256 .f32 := (extractStridedSlice S1x256 ![7, 0] · slices_S17x256_S1x256_7_0) main_arg2
  let main_v87 : FVec F S256 .f32 := shapeCast S256 main_v86 shapeCasts_S1x256_S256
  let main_v88 : FVec F S1x1x256 .f32 := broadcastInDim S1x1x256 ![2] bcast_S256_S1x1x256_2 main_v87
  let main_cst_20 : FVec F S_ .f32 := constant S_ .f32 0x00000000#32
  let main_v89 : FVec F S1024x200x256 .f32 := fn_where_0 (F := F) main_v85 main_v88 main_cst_20
  let main_v90 : FVec F S1024x200x256 .f32 := addf main_v82 main_v89
  let main_cst_21 : FVec F S_ .f32 := constant S_ .f32 0x41000000#32
  let main_v91 : FVec F S1024x200 .f32 := broadcastInDim S1024x200 ![] bcast_S_S1024x200 main_cst_21
  let main_v92 : IVec S1024x200 1 := cmpf .oeq main_v4 main_v91
  let main_v93 : IVec S1024x200x1 1 := broadcastInDim S1024x200x1 ![0, 1] bcast_S1024x200_S1024x200x1_0_1 main_v92
  let main_v94 : FVec F S1x256 .f32 := (extractStridedSlice S1x256 ![8, 0] · slices_S17x256_S1x256_8_0) main_arg2
  let main_v95 : FVec F S256 .f32 := shapeCast S256 main_v94 shapeCasts_S1x256_S256
  let main_v96 : FVec F S1x1x256 .f32 := broadcastInDim S1x1x256 ![2] bcast_S256_S1x1x256_2 main_v95
  fn_part5 (F := F) main_arg2 main_arg5 main_arg6 main_v4 main_v90 main_v93 main_v96

def fn_part3 {F : FTy → Type} [FloatOps F] (main_arg2 : FVec F S17x256 .f32) (main_arg5 : FVec F S1024x200x256 .f32) (main_arg6 : FVec F S1024x200 .f32) (main_v4 : FVec F S1024x200 .f32) (main_v50 : FVec F S1024x200x256 .f32) (main_v57 : FVec F S1024x200x256 .f32) : IVec S1024x200x256 1 × IVec S1024x200 1 :=
  let main_v58 : FVec F S1024x200x256 .f32 := addf main_v50 main_v57
  let main_cst_13 : FVec F S_ .f32 := constant S_ .f32 0x40800000#32
  let main_v59 : FVec F S1024x200 .f32 := broadcastInDim S1024x200 ![] bcast_S_S1024x200 main_cst_13
  let main_v60 : IVec S1024x200 1 := cmpf .oeq main_v4 main_v59
  let main_v61 : IVec S1024x200x1 1 := broadcastInDim S1024x200x1 ![0, 1] bcast_S1024x200_S1024x200x1_0_1 main_v60
  let main_v62 : FVec F S1x256 .f32 := (extractStridedSlice S1x256 ![4, 0] · slices_S17x256_S1x256_4_0) main_arg2
  let main_v63 : FVec F S256 .f32 := shapeCast S256 main_v62 shapeCasts_S1x256_S256
  let main_v64 : FVec F S1x1x256 .f32 := broadcastInDim S1x1x256 ![2] bcast_S256_S1x1x256_2 main_v63
  let main_cst_14 : FVec F S_ .f32 := constant S_ .f32 0x00000000#32
  let main_v65 : FVec F S1024x200x256 .f32 := fn_where_0 (F := F) main_v61 main_v64 main_cst_14
  let main_v66 : FVec F S1024x200x256 .f32 := addf main_v58 main_v65
  let main_cst_15 : FVec F S_ .f32 := constant S_ .f32 0x40A00000#32
  let main_v67 : FVec F S1024x200 .f32 := broadcastInDim S1024x200 ![] bcast_S_S1024x200 main_cst_15
  let main_v68 : IVec S1024x200 1 := cmpf .oeq main_v4 main_v67
  let main_v69 : IVec S1024x200x1 1 := broadcastInDim S1024x200x1 ![0, 1] bcast_S1024x200_S1024x200x1_0_1 main_v68
  let main_v70 : FVec F S1x256 .f32 := (extractStridedSlice S1x256 ![5, 0] · slices_S17x256_S1x256_5_0) main_arg2
  let main_v71 : FVec F S256 .f32 := shapeCast S256 main_v70 shapeCasts_S1x256_S256
  let main_v72 : FVec F S1x1x256 .f32 := broadcastInDim S1x1x256 ![2] bcast_S256_S1x1x256_2 main_v71
  let main_cst_16 : FVec F S_ .f32 := constant S_ .f32 0x00000000#32
  let main_v73 : FVec F S1024x200x256 .f32 := fn_where_0 (F := F) main_v69 main_v72 main_cst_16
  let main_v74 : FVec F S1024x200x256 .f32 := addf main_v66 main_v73
  let main_cst_17 : FVec F S_ .f32 := constant S_ .f32 0x40C00000#32
  let main_v75 : FVec F S1024x200 .f32 := broadcastInDim S1024x200 ![] bcast_S_S1024x200 main_cst_17
  let main_v76 : IVec S1024x200 1 := cmpf .oeq main_v4 main_v75
  fn_part4 (F := F) main_arg2 main_arg5 main_arg6 main_v4 main_v74 main_v76

def fn_part2 {F : FTy → Type} [FloatOps F] (main_arg2 : FVec F S17x256 .f32) (main_arg5 : FVec F S1024x200x256 .f32) (main_arg6 : FVec F S1024x200 .f32) (main_v4 : FVec F S1024x200 .f32) (main_v34 : FVec F S1024x200x256 .f32) (main_v37 : IVec S1024x200x1 1) (main_v38 : FVec F S1x256 .f32) : IVec S1024x200x256 1 × IVec S1024x200 1 :=
  let main_v39 : FVec F S256 .f32 := shapeCast S256 main_v38 shapeCasts_S1x256_S256
  let main_v40 : FVec F S1x1x256 .f32 := broadcastInDim S1x1x256 ![2] bcast_S256_S1x1x256_2 main_v39
  let main_cst_8 : FVec F S_ .f32 := constant S_ .f32 0x00000000#32
  let main_v41 : FVec F S1024x200x256 .f32 := fn_where_0 (F := F) main_v37 main_v40 main_cst_8
  let main_v42 : FVec F S1024x200x256 .f32 := addf main_v34 main_v41
  let main_cst_9 : FVec F S_ .f32 := constant S_ .f32 0x40000000#32
  let main_v43 : FVec F S1024x200 .f32 := broadcastInDim S1024x200 ![] bcast_S_S1024x200 main_cst_9
  let main_v44 : IVec S1024x200 1 := cmpf .oeq main_v4 main_v43
  let main_v45 : IVec S1024x200x1 1 := broadcastInDim S1024x200x1 ![0, 1] bcast_S1024x200_S1024x200x1_0_1 main_v44
  let main_v46 : FVec F S1x256 .f32 := (extractStridedSlice S1x256 ![2, 0] · slices_S17x256_S1x256_2_0) main_arg2
  let main_v47 : FVec F S256 .f32 := shapeCast S256 main_v46 shapeCasts_S1x256_S256
  let main_v48 : FVec F S1x1x256 .f32 := broadcastInDim S1x1x256 ![2] bcast_S256_S1x1x256_2 main_v47
  let main_cst_10 : FVec F S_ .f32 := constant S_ .f32 0x00000000#32
  let main_v49 : FVec F S1024x200x256 .f32 := fn_where_0 (F := F) main_v45 main_v48 main_cst_10
  let main_v50 : FVec F S1024x200x256 .f32 := addf main_v42 main_v49
  let main_cst_11 : FVec F S_ .f32 := constant S_ .f32 0x40400000#32
  let main_v51 : FVec F S1024x200 .f32 := broadcastInDim S1024x200 ![] bcast_S_S1024x200 main_cst_11
  let main_v52 : IVec S1024x200 1 := cmpf .oeq main_v4 main_v51
  let main_v53 : IVec S1024x200x1 1 := broadcastInDim S1024x200x1 ![0, 1] bcast_S1024x200_S1024x200x1_0_1 main_v52
  let main_v54 : FVec F S1x256 .f32 := (extractStridedSlice S1x256 ![3, 0] · slices_S17x256_S1x256_3_0) main_arg2
  let main_v55 : FVec F S256 .f32 := shapeCast S256 main_v54 shapeCasts_S1x256_S256
  let main_v56 : FVec F S1x1x256 .f32 := broadcastInDim S1x1x256 ![2] bcast_S256_S1x1x256_2 main_v55
  let main_cst_12 : FVec F S_ .f32 := constant S_ .f32 0x00000000#32
  let main_v57 : FVec F S1024x200x256 .f32 := fn_where_0 (F := F) main_v53 main_v56 main_cst_12
  fn_part3 (F := F) main_arg2 main_arg5 main_arg6 main_v4 main_v50 main_v57

def fn_part1 {F : FTy → Type} [FloatOps F] (main_arg2 : FVec F S17x256 .f32) (main_arg3 : FVec F S256 .f32) (main_arg4 : FVec F S256 .f32) (main_arg5 : FVec F S1024x200x256 .f32) (main_arg6 : FVec F S1024x200 .f32) (main_v4 : FVec F S1024x200 .f32) (main_v16 : FVec F S1024x200x256 .f32) (main_v18 : IVec S1024x200 1) : IVec S1024x200x256 1 × IVec S1024x200 1 :=
  let main_v19 : IVec S1024x200x1 1 := broadcastInDim S1024x200x1 ![0, 1] bcast_S1024x200_S1024x200x1_0_1 main_v18
  let main_v20 : FVec F S1x1x256 .f32 := broadcastInDim S1x1x256 ![2] bcast_S256_S1x1x256_2 main_arg4
  let main_v21 : FVec F S1024x200x256 .f32 := fn_where (F := F) main_v19 main_v20 main_v16
  let main_cst_4 : FVec F S_ .f32 := constant S_ .f32 0xBF800000#32
  let main_v22 : FVec F S1024x200 .f32 := broadcastInDim S1024x200 ![] bcast_S_S1024x200 main_cst_4
  let main_v23 : IVec S1024x200 1 := cmpf .oeq main_v4 main_v22
  let main_v24 : IVec S1024x200x1 1 := broadcastInDim S1024x200x1 ![0, 1] bcast_S1024x200_S1024x200x1_0_1 main_v23
  let main_v25 : FVec F S1x1x256 .f32 := broadcastInDim S1x1x256 ![2] bcast_S256_S1x1x256_2 main_arg3
  let main_v26 : FVec F S1024x200x256 .f32 := fn_where (F := F) main_v24 main_v25 main_v21
  let main_cst_5 : FVec F S_ .f32 := constant S_ .f32 0x00000000#32
  let main_v27 : FVec F S1024x200 .f32 := broadcastInDim S1024x200 ![] bcast_S_S1024x200 main_cst_5
  let main_v28 : IVec S1024x200 1 := cmpf .oeq main_v4 main_v27
  let main_v29 : IVec S1024x200x1 1 := broadcastInDim S1024x200x1 ![0, 1] bcast_S1024x200_S1024x200x1_0_1 main_v28
  let main_v30 : FVec F S1x256 .f32 := (extractStridedSlice S1x256 ![0, 0] · slices_S17x256_S1x256_0_0) main_arg2
  let main_v31 : FVec F S256 .f32 := shapeCast S256 main_v30 shapeCasts_S1x256_S256
  let main_v32 : FVec F S1x1x256 .f32 := broadcastInDim S1x1x256 ![2] bcast_S256_S1x1x256_2 main_v31
  let main_cst_6 : FVec F S_ .f32 := constant S_ .f32 0x00000000#32
  let main_v33 : FVec F S1024x200x256 .f32 := fn_where_0 (F := F) main_v29 main_v32 main_cst_6
  let main_v34 : FVec F S1024x200x256 .f32 := addf main_v26 main_v33
  let main_cst_7 : FVec F S_ .f32 := constant S_ .f32 0x3F800000#32
  let main_v35 : FVec F S1024x200 .f32 := broadcastInDim S1024x200 ![] bcast_S_S1024x200 main_cst_7
  let main_v36 : IVec S1024x200 1 := cmpf .oeq main_v4 main_v35
  let main_v37 : IVec S1024x200x1 1 := broadcastInDim S1024x200x1 ![0, 1] bcast_S1024x200_S1024x200x1_0_1 main_v36
  let main_v38 : FVec F S1x256 .f32 := (extractStridedSlice S1x256 ![1, 0] · slices_S17x256_S1x256_1_0) main_arg2
  fn_part2 (F := F) main_arg2 main_arg5 main_arg6 main_v4 main_v34 main_v37 main_v38

def fn {F : FTy → Type} [FloatOps F] (main_arg0 : FVec F S1024x200x3 .f32) (main_arg1 : FVec F S2x128 .f32) (main_arg2 : FVec F S17x256 .f32) (main_arg3 : FVec F S256 .f32) (main_arg4 : FVec F S256 .f32) (main_arg5 : FVec F S1024x200x256 .f32) (main_arg6 : FVec F S1024x200 .f32) : IVec S1024x200x256 1 × IVec S1024x200 1 :=
  let main_cst : FVec F S_ .f32 := constant S_ .f32 0x3F800000#32
  let main_v0 : FVec F S_ .f32 := Host.atan main_cst
  let main_cst_0 : FVec F S_ .f32 := constant S_ .f32 0x41000000#32
  let main_v1 : FVec F S_ .f32 := mulf main_cst_0 main_v0
  let main_v2 : FVec F S1024x200x2 .f32 := (extractStridedSlice S1024x200x2 ![0, 0, 0] · slices_S1024x200x3_S1024x200x2_0_0_0) main_arg0
  let main_v3 : FVec F S1024x200x1 .f32 := (extractStridedSlice S1024x200x1 ![0, 0, 2] · slices_S1024x200x3_S1024x200x1_0_0_2) main_arg0
  let main_v4 : FVec F S1024x200 .f32 := shapeCast S1024x200 main_v3 shapeCasts_S1024x200x1_S1024x200
  let main_cst_1 : FVec F S_ .f32 := constant S_ .f32 0x40000000#32
  let main_v5 : FVec F S1024x200x2 .f32 := broadcastInDim S1024x200x2 ![] bcast_S_S1024x200x2 main_cst_1
  let main_v6 : FVec F S1024x200x2 .f32 := mulf main_v5 main_v2
  let main_cst_2 : FVec F S_ .f32 := constant S_ .f32 0x3F800000#32
  let main_v7 : FVec F S1024x200x2 .f32 := broadcastInDim S1024x200x2 ![] bcast_S_S1024x200x2 main_cst_2
  let main_v8 : FVec F S1024x200x2 .f32 := subf main_v6 main_v7
  let main_v9 : FVec F S1024x200x128 .f32 := (fun l r => Host.dotGeneral dot_S1024x200x2_S2x128_S1024x200x128_2_0_01_1_n_n none l r) main_v8 main_arg1
  let main_v10 : FVec F S1024x200x128 .f32 := broadcastInDim S1024x200x128 ![] bcast_S_S1024x200x128 main_v1
  let main_v11 : FVec F S1024x200x128 .f32 := mulf main_v10 main_v9
  let main_v12 : FVec F S1024x200x128 .f32 := Host.sin main_v11
  let main_v13 : FVec F S1024x200x128 .f32 := broadcastInDim S1024x200x128 ![] bcast_S_S1024x200x128 main_v1
  let main_v14 : FVec F S1024x200x128 .f32 := mulf main_v13 main_v9
  let main_v15 : FVec F S1024x200x128 .f32 := Host.cos main_v14
  let main_v16 : FVec F S1024x200x256 .f32 := (fun a b => concatenate S1024x200x256 2 [⟨S1024x200x128, a⟩, ⟨S1024x200x128, b⟩] concatenates_S1024x200x128_S1024x200x128_S1024x200x256_d2) main_v12 main_v15
  let main_cst_3 : FVec F S_ .f32 := constant S_ .f32 0xC0000000#32
  let main_v17 : FVec F S1024x200 .f32 := broadcastInDim S1024x200 ![] bcast_S_S1024x200 main_cst_3
  let main_v18 : IVec S1024x200 1 := cmpf .oeq main_v4 main_v17
  fn_part1 (F := F) main_arg2 main_arg3 main_arg4 main_arg5 main_arg6 main_v4 main_v16 main_v18
-- ==== Pre_inputs_finite.lean ====
abbrev S1024x200x3 : Shape := ⟨3, ![1024, 200, 3]⟩
abbrev S2x128 : Shape := ⟨2, ![2, 128]⟩
abbrev S17x256 : Shape := ⟨2, ![17, 256]⟩
abbrev S256 : Shape := ⟨1, ![256]⟩
abbrev S1024x200x1 : Shape := ⟨3, ![1024, 200, 1]⟩
abbrev S1024x200 : Shape := ⟨2, ![1024, 200]⟩
abbrev S_ : Shape := ⟨0, ![]⟩
abbrev S1024x200x2 : Shape := ⟨3, ![1024, 200, 2]⟩

class Facts : Prop where
  slices_S1024x200x3_S1024x200x1_0_0_2 : S1024x200x3.Slices ![0, 0, 2] S1024x200x1
  shapeCasts_S1024x200x1_S1024x200 : S1024x200x1.ShapeCasts S1024x200
  bcast_S_S1024x200 : S_.BroadcastsInDim S1024x200 (![] : Fin 0 → Fin S1024x200.rank)
  slices_S1024x200x3_S1024x200x2_0_0_0 : S1024x200x3.Slices ![0, 0, 0] S1024x200x2
  bcast_S_S1024x200x2 : S_.BroadcastsInDim S1024x200x2 (![] : Fin 0 → Fin S1024x200x2.rank)
  bcast_S_S2x128 : S_.BroadcastsInDim S2x128 (![] : Fin 0 → Fin S2x128.rank)

variable [Facts]

def fn_round {F : FTy → Type} [FloatOps F] (arg0 : FVec F S1024x200 .f32) : FVec F S1024x200 .f32 :=
  let v0 : FVec F S1024x200 .f32 := Host.roundeven arg0
  v0

def fn {F : FTy → Type} [FloatOps F] (main_arg0 : FVec F S1024x200x3 .f32) (main_arg1 : FVec F S2x128 .f32) (main_arg2 : FVec F S17x256 .f32) (main_arg3 : FVec F S256 .f32) (main_arg4 : FVec F S256 .f32) : IVec S1024x200 1 × IVec S1024x200x2 1 × IVec S2x128 1 :=
  let main_v0 : FVec F S1024x200x1 .f32 := (extractStridedSlice S1024x200x1 ![0, 0, 2] · slices_S1024x200x3_S1024x200x1_0_0_2) main_arg0
  let main_v1 : FVec F S1024x200 .f32 := shapeCast S1024x200 main_v0 shapeCasts_S1024x200x1_S1024x200
  let main_v2 : FVec F S1024x200 .f32 := fn_round (F := F) main_v1
  let main_v3 : IVec S1024x200 1 := cmpf .oeq main_v1 main_v2
  let main_cst : FVec F S_ .f32 := constant S_ .f32 0xC0000000#32
  let main_v4 : FVec F S1024x200 .f32 := broadcastInDim S1024x200 ![] bcast_S_S1024x200 main_cst
  let main_v5 : IVec S1024x200 1 := cmpf .oge main_v1 main_v4
  let main_v6 : IVec S1024x200 1 := andi main_v3 main_v5
  let main_v7 : FVec F S1024x200x2 .f32 := (extractStridedSlice S1024x200x2 ![0, 0, 0] · slices_S1024x200x3_S1024x200x2_0_0_0) main_arg0
  let main_v8 : FVec F S1024x200x2 .f32 := Host.absf main_v7
  let main_cst_0 : FVec F S_ .f32 := constant S_ .f32 0x7F800000#32
  let main_v9 : FVec F S1024x200x2 .f32 := broadcastInDim S1024x200x2 ![] bcast_S_S1024x200x2 main_cst_0
  let main_v10 : IVec S1024x200x2 1 := cmpf .olt main_v8 main_v9
  let main_v11 : FVec F S2x128 .f32 := Host.absf main_arg1
  let main_cst_1 : FVec F S_ .f32 := constant S_ .f32 0x7F800000#32
  let main_v12 : FVec F S2x128 .f32 := broadcastInDim S2x128 ![] bcast_S_S2x128 main_cst_1
  let main_v13 : IVec S2x128 1 := cmpf .olt main_v11 main_v12
  (main_v6, main_v10, main_v13)
-- ==== Pre_labels_integral.lean ====
abbrev S1024x200x3 : Shape := ⟨3, ![1024, 200, 3]⟩
abbrev S2x128 : Shape := ⟨2, ![2, 128]⟩
abbrev S17x256 : Shape := ⟨2, ![17, 256]⟩
abbrev S256 : Shape := ⟨1, ![256]⟩
abbrev S1024x200x1 : Shape := ⟨3, ![1024, 200, 1]⟩
abbrev S1024x200 : Shape := ⟨2, ![1024, 200]⟩
abbrev S_ : Shape := ⟨0, ![]⟩

class Facts : Prop where
  slices_S1024x200x3_S1024x200x1_0_0_2 : S1024x200x3.Slices ![0, 0, 2] S1024x200x1
  shapeCasts_S1024x200x1_S1024x200 : S1024x200x1.ShapeCasts S1024x200
  bcast_S_S1024x200 : S_.BroadcastsInDim S1024x200 (![] : Fin 0 → Fin S1024x200.rank)

variable [Facts]

def fn_round {F : FTy → Type} [FloatOps F] (arg0 : FVec F S1024x200 .f32) : FVec F S1024x200 .f32 :=
  let v0 : FVec F S1024x200 .f32 := Host.roundeven arg0
  v0

def fn {F : FTy → Type} [FloatOps F] (main_arg0 : FVec F S1024x200x3 .f32) (main_arg1 : FVec F S2x128 .f32) (main_arg2 : FVec F S17x256 .f32) (main_arg3 : FVec F S256 .f32) (main_arg4 : FVec F S256 .f32) : IVec S1024x200 1 :=
  let main_v0 : FVec F S1024x200x1 .f32 := (extractStridedSlice S1024x200x1 ![0, 0, 2] · slices_S1024x200x3_S1024x200x1_0_0_2) main_arg0
  let main_v1 : FVec F S1024x200 .f32 := shapeCast S1024x200 main_v0 shapeCasts_S1024x200x1_S1024x200
  let main_v2 : FVec F S1024x200 .f32 := fn_round (F := F) main_v1
  let main_v3 : IVec S1024x200 1 := cmpf .oeq main_v1 main_v2
  let main_cst : FVec F S_ .f32 := constant S_ .f32 0xC0000000#32
  let main_v4 : FVec F S1024x200 .f32 := broadcastInDim S1024x200 ![] bcast_S_S1024x200 main_cst
  let main_v5 : IVec S1024x200 1 := cmpf .oge main_v1 main_v4
  let main_v6 : IVec S1024x200 1 := andi main_v3 main_v5
  main_v6
-- ==== Kernel.lean ====
abbrev S1024x200x3 : Shape := ⟨3, ![1024, 200, 3]⟩
abbrev S2x128 : Shape := ⟨2, ![2, 128]⟩
abbrev S17x256 : Shape := ⟨2, ![17, 256]⟩
abbrev S256 : Shape := ⟨1, ![256]⟩
abbrev S204800x3 : Shape := ⟨2, ![204800, 3]⟩
abbrev S1x256 : Shape := ⟨2, ![1, 256]⟩
abbrev S19x256 : Shape := ⟨2, ![19, 256]⟩
abbrev S204800x256 : Shape := ⟨2, ![204800, 256]⟩
abbrev S204800x1 : Shape := ⟨2, ![204800, 1]⟩
abbrev S12800x3 : Shape := ⟨2, ![12800, 3]⟩
abbrev S12800x256 : Shape := ⟨2, ![12800, 256]⟩
abbrev S12800x1 : Shape := ⟨2, ![12800, 1]⟩
abbrev S1600x3 : Shape := ⟨2, ![1600, 3]⟩
abbrev S1600x2 : Shape := ⟨2, ![1600, 2]⟩
abbrev S1600x1 : Shape := ⟨2, ![1600, 1]⟩
abbrev S1600x128 : Shape := ⟨2, ![1600, 128]⟩
abbrev S1x19 : Shape := ⟨2, ![1, 19]⟩
abbrev S1600x19 : Shape := ⟨2, ![1600, 19]⟩
abbrev S1600x256 : Shape := ⟨2, ![1600, 256]⟩
abbrev S1024x200x256 : Shape := ⟨3, ![1024, 200, 256]⟩
abbrev S1024x200 : Shape := ⟨2, ![1024, 200]⟩

abbrev nBuf : Space → Nat
  | .hbm => 13
  | .vmem => 8
  | .smem => 0
  | _ => 0

abbrev bufTy : (tb : Table) → Fin (tcTables nBuf tb) → BufTy
  | .hbm, ⟨0, _⟩ => ⟨S1024x200x3, .f32⟩
  | .hbm, ⟨1, _⟩ => ⟨S2x128, .f32⟩
  | .hbm, ⟨2, _⟩ => ⟨S17x256, .f32⟩
  | .hbm, ⟨3, _⟩ => ⟨S256, .f32⟩
  | .hbm, ⟨4, _⟩ => ⟨S256, .f32⟩
  | .hbm, ⟨5, _⟩ => ⟨S204800x3, .f32⟩
  | .hbm, ⟨6, _⟩ => ⟨S1x256, .f32⟩
  | .hbm, ⟨7, _⟩ => ⟨S1x256, .f32⟩
  | .hbm, ⟨8, _⟩ => ⟨S19x256, .f32⟩
  | .hbm, ⟨9, _⟩ => ⟨S204800x256, .f32⟩
  | .hbm, ⟨10, _⟩ => ⟨S204800x1, .f32⟩
  | .hbm, ⟨11, _⟩ => ⟨S1024x200x256, .f32⟩
  | .hbm, ⟨12, _⟩ => ⟨S1024x200, .f32⟩
  | .local _ .vmem, ⟨0, _⟩ => ⟨S12800x3, .f32⟩
  | .local _ .vmem, ⟨1, _⟩ => ⟨S12800x3, .f32⟩
  | .local _ .vmem, ⟨2, _⟩ => ⟨S2x128, .f32⟩
  | .local _ .vmem, ⟨3, _⟩ => ⟨S19x256, .f32⟩
  | .local _ .vmem, ⟨4, _⟩ => ⟨S12800x256, .f32⟩
  | .local _ .vmem, ⟨5, _⟩ => ⟨S12800x256, .f32⟩
  | .local _ .vmem, ⟨6, _⟩ => ⟨S12800x1, .f32⟩
  | .local _ .vmem, ⟨7, _⟩ => ⟨S12800x1, .f32⟩
  | _, _ => ⟨S1024x200x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c1600_i32 : BitVec 32 := 1600#32
  let v5 : BitVec 32 := Scalar.muli arg6 c1600_i32
  let v6 : Index := Scalar.indexCast v5
  let c0_4 : Index := 0#32
  ![v6.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c1600_i32 : BitVec 32 := 1600#32
  let v5 : BitVec 32 := Scalar.muli arg6 c1600_i32
  let v64 : Index := Scalar.indexCast v5
  let c0_18 : Index := 0#32
  ![v64.toNat, 0]
def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c1600_i32 : BitVec 32 := 1600#32
  let v5 : BitVec 32 := Scalar.muli arg6 c1600_i32
  let v68 : Index := Scalar.indexCast v5
  let c128 : Index := 128#32
  ![v68.toNat, 128]
def k0_off4 (k0_t1 : Fin k0_t1_loop.trips) : Fin 2 → Nat :=
  let c0_i32 : BitVec 32 := 0#32
  let c1_i32 : BitVec 32 := 1#32
  let arg6 : BitVec 32 := Scf.iv c0_i32 c1_i32 k0_t1
  let c1600_i32 : BitVec 32 := 1600#32
  let v5 : BitVec 32 := Scalar.muli arg6 c1600_i32
  let v74 : Index := Scalar.indexCast v5
  let c0_19 : Index := 0#32
  ![v74.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S19x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S12800x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S12800x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1024x200x3 : Shape := ⟨3, ![1024, 200, 3]⟩
abbrev S2x128 : Shape := ⟨2, ![2, 128]⟩
abbrev S17x256 : Shape := ⟨2, ![17, 256]⟩
abbrev S256 : Shape := ⟨1, ![256]⟩
abbrev S_ : Shape := ⟨0, ![]⟩
abbrev S1024x200x2 : Shape := ⟨3, ![1024, 200, 2]⟩
abbrev S1024x200x1 : Shape := ⟨3, ![1024, 200, 1]⟩
abbrev S1024x200 : Shape := ⟨2, ![1024, 200]⟩
abbrev S1024x200x128 : Shape := ⟨3, ![1024, 200, 128]⟩
abbrev S1024x200x256 : Shape := ⟨3, ![1024, 200, 256]⟩
abbrev S1x1x256 : Shape := ⟨3, ![1, 1, 256]⟩
abbrev S1x256 : Shape := ⟨2, ![1, 256]⟩

abbrev nBuf : Space → Nat
  | .hbm => 284
  | .vmem => 0
  | .smem => 0
  | _ => 0

abbrev hbmTy0_0 (i : Nat) : BufTy := match i % 128 with
  | 0 => ⟨S1024x200x3, .f32⟩
  | 1 => ⟨S2x128, .f32⟩
  | 2 => ⟨S17x256, .f32⟩
  | 3 => ⟨S256, .f32⟩
  | 4 => ⟨S256, .f32⟩
  | 5 => ⟨S_, .f32⟩
  | 6 => ⟨S_, .f32⟩
  | 7 => ⟨S_, .f32⟩
  | 8 => ⟨S_, .f32⟩
  | 9 => ⟨S1024x200x2, .f32⟩
  | 10 => ⟨S1024x200x1, .f32⟩
  | 11 => ⟨S1024x200, .f32⟩
  | 12 => ⟨S_, .f32⟩
  | 13 => ⟨S1024x200x2, .f32⟩
  | 14 => ⟨S1024x200x2, .f32⟩
  | 15 => ⟨S_, .f32⟩
  | 16 => ⟨S1024x200x2, .f32⟩
  | 17 => ⟨S1024x200x2, .f32⟩
  | 18 => ⟨S1024x200x128, .f32⟩
  | 19 => ⟨S1024x200x128, .f32⟩
  | 20 => ⟨S1024x200x128, .f32⟩
  | 21 => ⟨S1024x200x128, .f32⟩
  | 22 => ⟨S1024x200x128, .f32⟩
  | 23 => ⟨S1024x200x128, .f32⟩
  | 24 => ⟨S1024x200x128, .f32⟩
  | 25 => ⟨S1024x200x256, .f32⟩
  | 26 => ⟨S_, .f32⟩
  | 27 => ⟨S1024x200, .f32⟩
  | 28 => ⟨S1024x200, .i1⟩
  | 29 => ⟨S1024x200x1, .i1⟩
  | 30 => ⟨S1x1x256, .f32⟩
  | 31 => ⟨S1024x200x256, .i1⟩
  | 32 => ⟨S1024x200x256, .f32⟩
  | 33 => ⟨S1024x200x256, .f32⟩
  | 34 => ⟨S_, .f32⟩
  | 35 => ⟨S1024x200, .f32⟩
  | 36 => ⟨S1024x200, .i1⟩
  | 37 => ⟨S1024x200x1, .i1⟩
  | 38 => ⟨S1x1x256, .f32⟩
  | 39 => ⟨S1024x200x256, .i1⟩
  | 40 => ⟨S1024x200x256, .f32⟩
  | 41 => ⟨S1024x200x256, .f32⟩
  | 42 => ⟨S_, .f32⟩
  | 43 => ⟨S1024x200, .f32⟩
  | 44 => ⟨S1024x200, .i1⟩
  | 45 => ⟨S1024x200x1, .i1⟩
  | 46 => ⟨S1x256, .f32⟩
  | 47 => ⟨S256, .f32⟩
  | 48 => ⟨S1x1x256, .f32⟩
  | 49 => ⟨S_, .f32⟩
  | 50 => ⟨S_, .f32⟩
  | 51 => ⟨S1024x200x256, .i1⟩
  | 52 => ⟨S1024x200x256, .f32⟩
  | 53 => ⟨S1024x200x256, .f32⟩
  | 54 => ⟨S1024x200x256, .f32⟩
  | 55 => ⟨S1024x200x256, .f32⟩
  | 56 => ⟨S_, .f32⟩
  | 57 => ⟨S1024x200, .f32⟩
  | 58 => ⟨S1024x200, .i1⟩
  | 59 => ⟨S1024x200x1, .i1⟩
  | 60 => ⟨S1x256, .f32⟩
  | 61 => ⟨S256, .f32⟩
  | 62 => ⟨S1x1x256, .f32⟩
  | 63 => ⟨S_, .f32⟩
  | 64 => ⟨S_, .f32⟩
  | 65 => ⟨S1024x200x256, .i1⟩
  | 66 => ⟨S1024x200x256, .f32⟩
  | 67 => ⟨S1024x200x256, .f32⟩
  | 68 => ⟨S1024x200x256, .f32⟩
  | 69 => ⟨S1024x200x256, .f32⟩
  | 70 => ⟨S_, .f32⟩
  | 71 => ⟨S1024x200, .f32⟩
  | 72 => ⟨S1024x200, .i1⟩
  | 73 => ⟨S1024x200x1, .i1⟩
  | 74 => ⟨S1x256, .f32⟩
  | 75 => ⟨S256, .f32⟩
  | 76 => ⟨S1x1x256, .f32⟩
  | 77 => ⟨S_, .f32⟩
  | 78 => ⟨S_, .f32⟩
  | 79 => ⟨S1024x200x256, .i1⟩
  | 80 => ⟨S1024x200x256, .f32⟩
  | 81 => ⟨S1024x200x256, .f32⟩
  | 82 => ⟨S1024x200x256, .f32⟩
  | 83 => ⟨S1024x200x256, .f32⟩
  | 84 => ⟨S_, .f32⟩
  | 85 => ⟨S1024x200, .f32⟩
  | 86 => ⟨S1024x200, .i1⟩
  | 87 => ⟨S1024x200x1, .i1⟩
  | 88 => ⟨S1x256, .f32⟩
  | 89 => ⟨S256, .f32⟩
  | 90 => ⟨S1x1x256, .f32⟩
  | 91 => ⟨S_, .f32⟩
  | 92 => ⟨S_, .f32⟩
  | 93 => ⟨S1024x200x256, .i1⟩
  | 94 => ⟨S1024x200x256, .f32⟩
  | 95 => ⟨S1024x200x256, .f32⟩
  | 96 => ⟨S1024x200x256, .f32⟩
  | 97 => ⟨S1024x200x256, .f32⟩
  | 98 => ⟨S_, .f32⟩
  | 99 => ⟨S1024x200, .f32⟩
  | 100 => ⟨S1024x200, .i1⟩
  | 101 => ⟨S1024x200x1, .i1⟩
  | 102 => ⟨S1x256, .f32⟩
  | 103 => ⟨S256, .f32⟩
  | 104 => ⟨S1x1x256, .f32⟩
  | 105 => ⟨S_, .f32⟩
  | 106 => ⟨S_, .f32⟩
  | 107 => ⟨S1024x200x256, .i1⟩
  | 108 => ⟨S1024x200x256, .f32⟩
  | 109 => ⟨S1024x200x256, .f32⟩
  | 110 => ⟨S1024x200x256, .f32⟩
  | 111 => ⟨S1024x200x256, .f32⟩
  | 112 => ⟨S_, .f32⟩
  | 113 => ⟨S1024x200, .f32⟩
  | 114 => ⟨S1024x200, .i1⟩
  | 115 => ⟨S1024x200x1, .i1⟩
  | 116 => ⟨S1x256, .f32⟩
  | 117 => ⟨S256, .f32⟩
  | 118 => ⟨S1x1x256, .f32⟩
  | 119 => ⟨S_, .f32⟩
  | 120 => ⟨S_, .f32⟩
  | 121 => ⟨S1024x200x256, .i1⟩
  | 122 => ⟨S1024x200x256, .f32⟩
  | 123 => ⟨S1024x200x256, .f32⟩
  | 124 => ⟨S1024x200x256, .f32⟩
  | 125 => ⟨S1024x200x256, .f32⟩
  | 126 => ⟨S_, .f32⟩
  | 127 => ⟨S1024x200, .f32⟩
  | _ => ⟨S1024x200x3, .f32⟩

abbrev hbmTy0_1 (i : Nat) : BufTy := match i % 128 with
  | 0 => ⟨S1024x200, .i1⟩
  | 1 => ⟨S1024x200x1, .i1⟩
  | 2 => ⟨S1x256, .f32⟩
  | 3 => ⟨S256, .f32⟩
  | 4 => ⟨S1x1x256, .f32⟩
  | 5 => ⟨S_, .f32⟩
  | 6 => ⟨S_, .f32⟩
  | 7 => ⟨S1024x200x256, .i1⟩
  | 8 => ⟨S1024x200x256, .f32⟩
  | 9 => ⟨S1024x200x256, .f32⟩
  | 10 => ⟨S1024x200x256, .f32⟩
  | 11 => ⟨S1024x200x256, .f32⟩
  | 12 => ⟨S_, .f32⟩
  | 13 => ⟨S1024x200, .f32⟩
  | 14 => ⟨S1024x200, .i1⟩
  | 15 => ⟨S1024x200x1, .i1⟩
  | 16 => ⟨S1x256, .f32⟩
  | 17 => ⟨S256, .f32⟩
  | 18 => ⟨S1x1x256, .f32⟩
  | 19 => ⟨S_, .f32⟩
  | 20 => ⟨S_, .f32⟩
  | 21 => ⟨S1024x200x256, .i1⟩
  | 22 => ⟨S1024x200x256, .f32⟩
  | 23 => ⟨S1024x200x256, .f32⟩
  | 24 => ⟨S1024x200x256, .f32⟩
  | 25 => ⟨S1024x200x256, .f32⟩
  | 26 => ⟨S_, .f32⟩
  | 27 => ⟨S1024x200, .f32⟩
  | 28 => ⟨S1024x200, .i1⟩
  | 29 => ⟨S1024x200x1, .i1⟩
  | 30 => ⟨S1x256, .f32⟩
  | 31 => ⟨S256, .f32⟩
  | 32 => ⟨S1x1x256, .f32⟩
  | 33 => ⟨S_, .f32⟩
  | 34 => ⟨S_, .f32⟩
  | 35 => ⟨S1024x200x256, .i1⟩
  | 36 => ⟨S1024x200x256, .f32⟩
  | 37 => ⟨S1024x200x256, .f32⟩
  | 38 => ⟨S1024x200x256, .f32⟩
  | 39 => ⟨S1024x200x256, .f32⟩
  | 40 => ⟨S_, .f32⟩
  | 41 => ⟨S1024x200, .f32⟩
  | 42 => ⟨S1024x200, .i1⟩
  | 43 => ⟨S1024x200x1, .i1⟩
  | 44 => ⟨S1x256, .f32⟩
  | 45 => ⟨S256, .f32⟩
  | 46 => ⟨S1x1x256, .f32⟩
  | 47 => ⟨S_, .f32⟩
  | 48 => ⟨S_, .f32⟩
  | 49 => ⟨S1024x200x256, .i1⟩
  | 50 => ⟨S1024x200x256, .f32⟩
  | 51 => ⟨S1024x200x256, .f32⟩
  | 52 => ⟨S1024x200x256, .f32⟩
  | 53 => ⟨S1024x200x256, .f32⟩
  | 54 => ⟨S_, .f32⟩
  | 55 => ⟨S1024x200, .f32⟩
  | 56 => ⟨S1024x200, .i1⟩
  | 57 => ⟨S1024x200x1, .i1⟩
  | 58 => ⟨S1x256, .f32⟩
  | 59 => ⟨S256, .f32⟩
  | 60 => ⟨S1x1x256, .f32⟩
  | 61 => ⟨S_, .f32⟩
  | 62 => ⟨S_, .f32⟩
  | 63 => ⟨S1024x200x256, .i1⟩
  | 64 => ⟨S1024x200x256, .f32⟩
  | 65 => ⟨S1024x200x256, .f32⟩
  | 66 => ⟨S1024x200x256, .f32⟩
  | 67 => ⟨S1024x200x256, .f32⟩
  | 68 => ⟨S_, .f32⟩
  | 69 => ⟨S1024x200, .f32⟩
  | 70 => ⟨S1024x200, .i1⟩
  | 71 => ⟨S1024x200x1, .i1⟩
  | 72 => ⟨S1x256, .f32⟩
  | 73 => ⟨S256, .f32⟩
  | 74 => ⟨S1x1x256, .f32⟩
  | 75 => ⟨S_, .f32⟩
  | 76 => ⟨S_, .f32⟩
  | 77 => ⟨S1024x200x256, .i1⟩
  | 78 => ⟨S1024x200x256, .f32⟩
  | 79 => ⟨S1024x200x256, .f32⟩
  | 80 => ⟨S1024x200x256, .f32⟩
  | 81 => ⟨S1024x200x256, .f32⟩
  | 82 => ⟨S_, .f32⟩
  | 83 => ⟨S1024x200, .f32⟩
  | 84 => ⟨S1024x200, .i1⟩
  | 85 => ⟨S1024x200x1, .i1⟩
  | 86 => ⟨S1x256, .f32⟩
  | 87 => ⟨S256, .f32⟩
  | 88 => ⟨S1x1x256, .f32⟩
  | 89 => ⟨S_, .f32⟩
  | 90 => ⟨S_, .f32⟩
  | 91 => ⟨S1024x200x256, .i1⟩
  | 92 => ⟨S1024x200x256, .f32⟩
  | 93 => ⟨S1024x200x256, .f32⟩
  | 94 => ⟨S1024x200x256, .f32⟩
  | 95 => ⟨S1024x200x256, .f32⟩
  | 96 => ⟨S_, .f32⟩
  | 97 => ⟨S1024x200, .f32⟩
  | 98 => ⟨S1024x200, .i1⟩
  | 99 => ⟨S1024x200x1, .i1⟩
  | 100 => ⟨S1x256, .f32⟩
  | 101 => ⟨S256, .f32⟩
  | 102 => ⟨S1x1x256, .f32⟩
  | 103 => ⟨S_, .f32⟩
  | 104 => ⟨S_, .f32⟩
  | 105 => ⟨S1024x200x256, .i1⟩
  | 106 => ⟨S1024x200x256, .f32⟩
  | 107 => ⟨S1024x200x256, .f32⟩
  | 108 => ⟨S1024x200x256, .f32⟩
  | 109 => ⟨S1024x200x256, .f32⟩
  | 110 => ⟨S_, .f32⟩
  | 111 => ⟨S1024x200, .f32⟩
  | 112 => ⟨S1024x200, .i1⟩
  | 113 => ⟨S1024x200x1, .i1⟩
  | 114 => ⟨S1x256, .f32⟩
  | 115 => ⟨S256, .f32⟩
  | 116 => ⟨S1x1x256, .f32⟩
  | 117 => ⟨S_, .f32⟩
  | 118 => ⟨S_, .f32⟩
  | 119 => ⟨S1024x200x256, .i1⟩
  | 120 => ⟨S1024x200x256, .f32⟩
  | 121 => ⟨S1024x200x256, .f32⟩
  | 122 => ⟨S1024x200x256, .f32⟩
  | 123 => ⟨S1024x200x256, .f32⟩
  | 124 => ⟨S_, .f32⟩
  | 125 => ⟨S1024x200, .f32⟩
  | 126 => ⟨S1024x200, .i1⟩
  | 127 => ⟨S1024x200x1, .i1⟩
  | _ => ⟨S1024x200x3, .f32⟩

abbrev hbmTy0_2 (i : Nat) : BufTy := match i % 128 with
  | 0 => ⟨S1x256, .f32⟩
  | 1 => ⟨S256, .f32⟩
  | 2 => ⟨S1x1x256, .f32⟩
  | 3 => ⟨S_, .f32⟩
  | 4 => ⟨S_, .f32⟩
  | 5 => ⟨S1024x200x256, .i1⟩
  | 6 => ⟨S1024x200x256, .f32⟩
  | 7 => ⟨S1024x200x256, .f32⟩
  | 8 => ⟨S1024x200x256, .f32⟩
  | 9 => ⟨S1024x200x256, .f32⟩
  | 10 => ⟨S_, .f32⟩
  | 11 => ⟨S1024x200, .f32⟩
  | 12 => ⟨S1024x200, .i1⟩
  | 13 => ⟨S1024x200x1, .i1⟩
  | 14 => ⟨S1x256, .f32⟩
  | 15 => ⟨S256, .f32⟩
  | 16 => ⟨S1x1x256, .f32⟩
  | 17 => ⟨S_, .f32⟩
  | 18 => ⟨S_, .f32⟩
  | 19 => ⟨S1024x200x256, .i1⟩
  | 20 => ⟨S1024x200x256, .f32⟩
  | 21 => ⟨S1024x200x256, .f32⟩
  | 22 => ⟨S1024x200x256, .f32⟩
  | 23 => ⟨S1024x200x256, .f32⟩
  | 24 => ⟨S_, .f32⟩
  | 25 => ⟨S1024x200, .f32⟩
  | 26 => ⟨S1024x200, .i1⟩
  | 27 => ⟨S1024x200, .f32⟩
  | _ => ⟨S1024x200x3, .f32⟩

abbrev hbmTy (i : Nat) : BufTy := match i / 128 with
  | 0 => hbmTy0_0 i
  | 1 => hbmTy0_1 i
  | 2 => hbmTy0_2 i
  | _ => ⟨S1024x200x3, .f32⟩

abbrev bufTy : (tb : Table) → Fin (tcTables nBuf tb) → BufTy
  | .hbm, ⟨i, _⟩ => hbmTy i
  | _, _ => ⟨S1024x200x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call1_v0 : Ref sig .tc := ⟨.hbm, 39, rfl⟩
abbrev main_call1_v1 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_10 : Ref sig .tc := ⟨.hbm, 77, rfl⟩
abbrev main_call4_v0 : Ref sig .tc := ⟨.hbm, 78, rfl⟩
abbrev main_call4_v1 : Ref sig .tc := ⟨.hbm, 79, rfl⟩
abbrev main_call4_v2 : Ref sig .tc := ⟨.hbm, 80, rfl⟩
abbrev main_call4_v3 : Ref sig .tc := ⟨.hbm, 81, rfl⟩
abbrev main_v49 : Ref sig .tc := ⟨.hbm, 82, rfl⟩
abbrev main_v50 : Ref sig .tc := ⟨.hbm, 83, rfl⟩
abbrev main_cst_11 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_12 : Ref sig .tc := ⟨.hbm, 91, rfl⟩
abbrev main_call5_v0 : Ref sig .tc := ⟨.hbm, 92, rfl⟩
abbrev main_call5_v1 : Ref sig .tc := ⟨.hbm, 93, rfl⟩
abbrev main_call5_v2 : Ref sig .tc := ⟨.hbm, 94, rfl⟩
abbrev main_call5_v3 : Ref sig .tc := ⟨.hbm, 95, rfl⟩
abbrev main_v57 : Ref sig .tc := ⟨.hbm, 96, rfl⟩
abbrev main_v58 : Ref sig .tc := ⟨.hbm, 97, rfl⟩
abbrev main_cst_13 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_14 : Ref sig .tc := ⟨.hbm, 105, rfl⟩
abbrev main_call6_v0 : Ref sig .tc := ⟨.hbm, 106, rfl⟩
abbrev main_call6_v1 : Ref sig .tc := ⟨.hbm, 107, rfl⟩
abbrev main_call6_v2 : Ref sig .tc := ⟨.hbm, 108, rfl⟩
abbrev main_call6_v3 : Ref sig .tc := ⟨.hbm, 109, rfl⟩
abbrev main_v65 : Ref sig .tc := ⟨.hbm, 110, rfl⟩
abbrev main_v66 : Ref sig .tc := ⟨.hbm, 111, rfl⟩
abbrev main_cst_15 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_16 : Ref sig .tc := ⟨.hbm, 119, rfl⟩
abbrev main_call7_v0 : Ref sig .tc := ⟨.hbm, 120, rfl⟩
abbrev main_call7_v1 : Ref sig .tc := ⟨.hbm, 121, rfl⟩
abbrev main_call7_v2 : Ref sig .tc := ⟨.hbm, 122, rfl⟩
abbrev main_call7_v3 : Ref sig .tc := ⟨.hbm, 123, rfl⟩
abbrev main_v73 : Ref sig .tc := ⟨.hbm, 124, rfl⟩
abbrev main_v74 : Ref sig .tc := ⟨.hbm, 125, rfl⟩
abbrev main_cst_17 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_cst_18 : Ref sig .tc := ⟨.hbm, 133, rfl⟩
abbrev main_call8_v0 : Ref sig .tc := ⟨.hbm, 134, rfl⟩
abbrev main_call8_v1 : Ref sig .tc := ⟨.hbm, 135, rfl⟩
abbrev main_call8_v2 : Ref sig .tc := ⟨.hbm, 136, rfl⟩
abbrev main_call8_v3 : Ref sig .tc := ⟨.hbm, 137, rfl⟩
abbrev main_v81 : Ref sig .tc := ⟨.hbm, 138, rfl⟩
abbrev main_v82 : Ref sig .tc := ⟨.hbm, 139, rfl⟩
abbrev main_cst_19 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_cst_20 : Ref sig .tc := ⟨.hbm, 147, rfl⟩
abbrev main_call9_v0 : Ref sig .tc := ⟨.hbm, 148, rfl⟩
abbrev main_call9_v1 : Ref sig .tc := ⟨.hbm, 149, rfl⟩
abbrev main_call9_v2 : Ref sig .tc := ⟨.hbm, 150, rfl⟩
abbrev main_call9_v3 : Ref sig .tc := ⟨.hbm, 151, rfl⟩
abbrev main_v89 : Ref sig .tc := ⟨.hbm, 152, rfl⟩
abbrev main_v90 : Ref sig .tc := ⟨.hbm, 153, rfl⟩
abbrev main_cst_21 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_cst_22 : Ref sig .tc := ⟨.hbm, 161, rfl⟩
abbrev main_call10_v0 : Ref sig .tc := ⟨.hbm, 162, rfl⟩
abbrev main_call10_v1 : Ref sig .tc := ⟨.hbm, 163, rfl⟩
abbrev main_call10_v2 : Ref sig .tc := ⟨.hbm, 164, rfl⟩
abbrev main_call10_v3 : Ref sig .tc := ⟨.hbm, 165, rfl⟩
abbrev main_v97 : Ref sig .tc := ⟨.hbm, 166, rfl⟩
abbrev main_v98 : Ref sig .tc := ⟨.hbm, 167, rfl⟩
abbrev main_cst_23 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_cst_24 : Ref sig .tc := ⟨.hbm, 175, rfl⟩
abbrev main_call11_v0 : Ref sig .tc := ⟨.hbm, 176, rfl⟩
abbrev main_call11_v1 : Ref sig .tc := ⟨.hbm, 177, rfl⟩
abbrev main_call11_v2 : Ref sig .tc := ⟨.hbm, 178, rfl⟩
abbrev main_call11_v3 : Ref sig .tc := ⟨.hbm, 179, rfl⟩
abbrev main_v105 : Ref sig .tc := ⟨.hbm, 180, rfl⟩
abbrev main_v106 : Ref sig .tc := ⟨.hbm, 181, rfl⟩
abbrev main_cst_25 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_cst_26 : Ref sig .tc := ⟨.hbm, 189, rfl⟩
abbrev main_call12_v0 : Ref sig .tc := ⟨.hbm, 190, rfl⟩
abbrev main_call12_v1 : Ref sig .tc := ⟨.hbm, 191, rfl⟩
abbrev main_call12_v2 : Ref sig .tc := ⟨.hbm, 192, rfl⟩
abbrev main_call12_v3 : Ref sig .tc := ⟨.hbm, 193, rfl⟩
abbrev main_v113 : Ref sig .tc := ⟨.hbm, 194, rfl⟩
abbrev main_v114 : Ref sig .tc := ⟨.hbm, 195, rfl⟩
abbrev main_cst_27 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_cst_28 : Ref sig .tc := ⟨.hbm, 203, rfl⟩
abbrev main_call13_v0 : Ref sig .tc := ⟨.hbm, 204, rfl⟩
abbrev main_call13_v1 : Ref sig .tc := ⟨.hbm, 205, rfl⟩
abbrev main_call13_v2 : Ref sig .tc := ⟨.hbm, 206, rfl⟩
abbrev main_call13_v3 : Ref sig .tc := ⟨.hbm, 207, rfl⟩
abbrev main_v121 : Ref sig .tc := ⟨.hbm, 208, rfl⟩
abbrev main_v122 : Ref sig .tc := ⟨.hbm, 209, rfl⟩
abbrev main_cst_29 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_cst_30 : Ref sig .tc := ⟨.hbm, 217, rfl⟩
abbrev main_call14_v0 : Ref sig .tc := ⟨.hbm, 218, rfl⟩
abbrev main_call14_v1 : Ref sig .tc := ⟨.hbm, 219, rfl⟩
abbrev main_call14_v2 : Ref sig .tc := ⟨.hbm, 220, rfl⟩
abbrev main_call14_v3 : Ref sig .tc := ⟨.hbm, 221, rfl⟩
abbrev main_v129 : Ref sig .tc := ⟨.hbm, 222, rfl⟩
abbrev main_v130 : Ref sig .tc := ⟨.hbm, 223, rfl⟩
abbrev main_cst_31 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_v134 : Ref sig .tc := ⟨.hbm, 228, rfl⟩
abbrev main_v135 : Ref sig .tc := ⟨.hbm, 229, rfl⟩
abbrev main_v136 : Ref sig .tc := ⟨.hbm, 230, rfl⟩
abbrev main_cst_32 : Ref sig .tc := ⟨.hbm, 231, rfl⟩
abbrev main_call15_v0 : Ref sig .tc := ⟨.hbm, 232, rfl⟩
abbrev main_call15_v1 : Ref sig .tc := ⟨.hbm, 233, rfl⟩
abbrev main_call15_v2 : Ref sig .tc := ⟨.hbm, 234, rfl⟩
abbrev main_call15_v3 : Ref sig .tc := ⟨.hbm, 235, rfl⟩
abbrev main_v137 : Ref sig .tc := ⟨.hbm, 236, rfl⟩
abbrev main_v138 : Ref sig .tc := ⟨.hbm, 237, rfl⟩
abbrev main_cst_33 : Ref sig .tc := ⟨.hbm, 238, rfl⟩
abbrev main_v139 : Ref sig .tc := ⟨.hbm, 239, rfl⟩
abbrev main_v140 : Ref sig .tc := ⟨.hbm, 240, rfl⟩
abbrev main_v141 : Ref sig .tc := ⟨.hbm, 241, rfl⟩
abbrev main_v142 : Ref sig .tc := ⟨.hbm, 242, rfl⟩
abbrev main_v143 : Ref sig .tc := ⟨.hbm, 243, rfl⟩
abbrev main_v144 : Ref sig .tc := ⟨.hbm, 244, rfl⟩
abbrev main_cst_34 : Ref sig .tc := ⟨.hbm, 245, rfl⟩
abbrev main_call16_v0 : Ref sig .tc := ⟨.hbm, 246, rfl⟩
abbrev main_call16_v1 : Ref sig .tc := ⟨.hbm, 247, rfl⟩
abbrev main_call16_v2 : Ref sig .tc := ⟨.hbm, 248, rfl⟩
abbrev main_call16_v3 : Ref sig .tc := ⟨.hbm, 249, rfl⟩
abbrev main_v145 : Ref sig .tc := ⟨.hbm, 250, rfl⟩
abbrev main_v146 : Ref sig .tc := ⟨.hbm, 251, rfl⟩
abbrev main_cst_35 : Ref sig .tc := ⟨.hbm, 252, rfl⟩
abbrev main_v147 : Ref sig .tc := ⟨.hbm, 253, rfl⟩
abbrev main_v148 : Ref sig .tc := ⟨.hbm, 254, rfl⟩
abbrev main_v149 : Ref sig .tc := ⟨.hbm, 255, rfl⟩
abbrev main_v150 : Ref sig .tc := ⟨.hbm, 256, rfl⟩
abbrev main_v151 : Ref sig .tc := ⟨.hbm, 257, rfl⟩
abbrev main_v152 : Ref sig .tc := ⟨.hbm, 258, rfl⟩
abbrev main_cst_36 : Ref sig .tc := ⟨.hbm, 259, rfl⟩
abbrev main_call17_v0 : Ref sig .tc := ⟨.hbm, 260, rfl⟩
abbrev main_call17_v1 : Ref sig .tc := ⟨.hbm, 261, rfl⟩
abbrev main_call17_v2 : Ref sig .tc := ⟨.hbm, 262, rfl⟩
abbrev main_call17_v3 : Ref sig .tc := ⟨.hbm, 263, rfl⟩
abbrev main_v153 : Ref sig .tc := ⟨.hbm, 264, rfl⟩
abbrev main_v154 : Ref sig .tc := ⟨.hbm, 265, rfl⟩
abbrev main_cst_37 : Ref sig .tc := ⟨.hbm, 266, rfl⟩
abbrev main_v155 : Ref sig .tc := ⟨.hbm, 267, rfl⟩
abbrev main_v156 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_v160 : Ref sig .tc := ⟨.hbm, 272, rfl⟩
abbrev main_cst_38 : Ref sig .tc := ⟨.hbm, 273, rfl⟩
abbrev main_call18_v0 : Ref sig .tc := ⟨.hbm, 274, rfl⟩
abbrev main_call18_v1 : Ref sig .tc := ⟨.hbm, 275, rfl⟩
abbrev main_call18_v2 : Ref sig .tc := ⟨.hbm, 276, rfl⟩
abbrev main_call18_v3 : Ref sig .tc := ⟨.hbm, 277, rfl⟩
abbrev main_v161 : Ref sig .tc := ⟨.hbm, 278, rfl⟩
abbrev main_v162 : Ref sig .tc := ⟨.hbm, 279, rfl⟩
abbrev main_cst_39 : Ref sig .tc := ⟨.hbm, 280, rfl⟩
abbrev main_v163 : Ref sig .tc := ⟨.hbm, 281, rfl⟩
abbrev main_v164 : Ref sig .tc := ⟨.hbm, 282, rfl⟩
abbrev main_v165 : Ref sig .tc := ⟨.hbm, 283, rfl⟩

abbrev nD : Nat := 1
abbrev τ : Topo := Topo.v7x

variable {F : FTy → Type} [FloatOps F]
-- ==== FittedIdeal.lean ====
abbrev S1024x200x3 : Shape := ⟨3, ![1024, 200, 3]⟩
abbrev S2x128 : Shape := ⟨2, ![2, 128]⟩
abbrev S17x256 : Shape := ⟨2, ![17, 256]⟩
abbrev S256 : Shape := ⟨1, ![256]⟩
abbrev S1024x200x2 : Shape := ⟨3, ![1024, 200, 2]⟩
abbrev S1024x200x1 : Shape := ⟨3, ![1024, 200, 1]⟩
abbrev S1024x200 : Shape := ⟨2, ![1024, 200]⟩
abbrev S_ : Shape := ⟨0, ![]⟩
abbrev S1024x200x128 : Shape := ⟨3, ![1024, 200, 128]⟩
abbrev S1024x200x256 : Shape := ⟨3, ![1024, 200, 256]⟩
abbrev S1x1x256 : Shape := ⟨3, ![1, 1, 256]⟩
abbrev S1x256 : Shape := ⟨2, ![1, 256]⟩

abbrev nBuf : Space → Nat
  | .hbm => 313
  | .vmem => 0
  | .smem => 0
  | _ => 0

abbrev hbmTy0_0 (i : Nat) : BufTy := match i % 128 with
  | 0 => ⟨S1024x200x3, .f32⟩
  | 1 => ⟨S2x128, .f32⟩
  | 2 => ⟨S17x256, .f32⟩
  | 3 => ⟨S256, .f32⟩
  | 4 => ⟨S256, .f32⟩
  | 5 => ⟨S1024x200x2, .f32⟩
  | 6 => ⟨S1024x200x1, .f32⟩
  | 7 => ⟨S1024x200, .f32⟩
  | 8 => ⟨S_, .f32⟩
  | 9 => ⟨S1024x200x2, .f32⟩
  | 10 => ⟨S1024x200x2, .f32⟩
  | 11 => ⟨S_, .f32⟩
  | 12 => ⟨S1024x200x2, .f32⟩
  | 13 => ⟨S1024x200x2, .f32⟩
  | 14 => ⟨S1024x200x128, .f32⟩
  | 15 => ⟨S1024x200x128, .f32⟩
  | 16 => ⟨S1024x200x128, .f32⟩
  | 17 => ⟨S1024x200x128, .f32⟩
  | 18 => ⟨S_, .f32⟩
  | 19 => ⟨S1024x200x128, .f32⟩
  | 20 => ⟨S1024x200x128, .f32⟩
  | 21 => ⟨S_, .f32⟩
  | 22 => ⟨S1024x200x128, .f32⟩
  | 23 => ⟨S1024x200x128, .f32⟩
  | 24 => ⟨S1024x200x128, .f32⟩
  | 25 => ⟨S_, .f32⟩
  | 26 => ⟨S1024x200x128, .f32⟩
  | 27 => ⟨S1024x200x128, .f32⟩
  | 28 => ⟨S1024x200x128, .f32⟩
  | 29 => ⟨S_, .f32⟩
  | 30 => ⟨S1024x200x128, .f32⟩
  | 31 => ⟨S1024x200x128, .f32⟩
  | 32 => ⟨S1024x200x128, .f32⟩
  | 33 => ⟨S1024x200x128, .f32⟩
  | 34 => ⟨S1024x200x128, .f32⟩
  | 35 => ⟨S1024x200x128, .f32⟩
  | 36 => ⟨S_, .f32⟩
  | 37 => ⟨S1024x200x128, .f32⟩
  | 38 => ⟨S1024x200x128, .f32⟩
  | 39 => ⟨S_, .f32⟩
  | 40 => ⟨S1024x200x128, .f32⟩
  | 41 => ⟨S1024x200x128, .f32⟩
  | 42 => ⟨S1024x200x128, .f32⟩
  | 43 => ⟨S_, .f32⟩
  | 44 => ⟨S1024x200x128, .f32⟩
  | 45 => ⟨S1024x200x128, .f32⟩
  | 46 => ⟨S1024x200x128, .f32⟩
  | 47 => ⟨S_, .f32⟩
  | 48 => ⟨S1024x200x128, .f32⟩
  | 49 => ⟨S1024x200x128, .f32⟩
  | 50 => ⟨S1024x200x128, .f32⟩
  | 51 => ⟨S_, .f32⟩
  | 52 => ⟨S1024x200x128, .f32⟩
  | 53 => ⟨S1024x200x128, .f32⟩
  | 54 => ⟨S1024x200x256, .f32⟩
  | 55 => ⟨S_, .f32⟩
  | 56 => ⟨S1024x200, .f32⟩
  | 57 => ⟨S1024x200, .i1⟩
  | 58 => ⟨S1024x200x1, .i1⟩
  | 59 => ⟨S1x1x256, .f32⟩
  | 60 => ⟨S1024x200x256, .i1⟩
  | 61 => ⟨S1024x200x256, .f32⟩
  | 62 => ⟨S1024x200x256, .f32⟩
  | 63 => ⟨S_, .f32⟩
  | 64 => ⟨S1024x200, .f32⟩
  | 65 => ⟨S1024x200, .i1⟩
  | 66 => ⟨S1024x200x1, .i1⟩
  | 67 => ⟨S1x1x256, .f32⟩
  | 68 => ⟨S1024x200x256, .i1⟩
  | 69 => ⟨S1024x200x256, .f32⟩
  | 70 => ⟨S1024x200x256, .f32⟩
  | 71 => ⟨S_, .f32⟩
  | 72 => ⟨S1024x200, .f32⟩
  | 73 => ⟨S1024x200, .i1⟩
  | 74 => ⟨S1024x200x1, .i1⟩
  | 75 => ⟨S1x256, .f32⟩
  | 76 => ⟨S256, .f32⟩
  | 77 => ⟨S1x1x256, .f32⟩
  | 78 => ⟨S_, .f32⟩
  | 79 => ⟨S_, .f32⟩
  | 80 => ⟨S1024x200x256, .i1⟩
  | 81 => ⟨S1024x200x256, .f32⟩
  | 82 => ⟨S1024x200x256, .f32⟩
  | 83 => ⟨S1024x200x256, .f32⟩
  | 84 => ⟨S1024x200x256, .f32⟩
  | 85 => ⟨S_, .f32⟩
  | 86 => ⟨S1024x200, .f32⟩
  | 87 => ⟨S1024x200, .i1⟩
  | 88 => ⟨S1024x200x1, .i1⟩
  | 89 => ⟨S1x256, .f32⟩
  | 90 => ⟨S256, .f32⟩
  | 91 => ⟨S1x1x256, .f32⟩
  | 92 => ⟨S_, .f32⟩
  | 93 => ⟨S_, .f32⟩
  | 94 => ⟨S1024x200x256, .i1⟩
  | 95 => ⟨S1024x200x256, .f32⟩
  | 96 => ⟨S1024x200x256, .f32⟩
  | 97 => ⟨S1024x200x256, .f32⟩
  | 98 => ⟨S1024x200x256, .f32⟩
  | 99 => ⟨S_, .f32⟩
  | 100 => ⟨S1024x200, .f32⟩
  | 101 => ⟨S1024x200, .i1⟩
  | 102 => ⟨S1024x200x1, .i1⟩
  | 103 => ⟨S1x256, .f32⟩
  | 104 => ⟨S256, .f32⟩
  | 105 => ⟨S1x1x256, .f32⟩
  | 106 => ⟨S_, .f32⟩
  | 107 => ⟨S_, .f32⟩
  | 108 => ⟨S1024x200x256, .i1⟩
  | 109 => ⟨S1024x200x256, .f32⟩
  | 110 => ⟨S1024x200x256, .f32⟩
  | 111 => ⟨S1024x200x256, .f32⟩
  | 112 => ⟨S1024x200x256, .f32⟩
  | 113 => ⟨S_, .f32⟩
  | 114 => ⟨S1024x200, .f32⟩
  | 115 => ⟨S1024x200, .i1⟩
  | 116 => ⟨S1024x200x1, .i1⟩
  | 117 => ⟨S1x256, .f32⟩
  | 118 => ⟨S256, .f32⟩
  | 119 => ⟨S1x1x256, .f32⟩
  | 120 => ⟨S_, .f32⟩
  | 121 => ⟨S_, .f32⟩
  | 122 => ⟨S1024x200x256, .i1⟩
  | 123 => ⟨S1024x200x256, .f32⟩
  | 124 => ⟨S1024x200x256, .f32⟩
  | 125 => ⟨S1024x200x256, .f32⟩
  | 126 => ⟨S1024x200x256, .f32⟩
  | 127 => ⟨S_, .f32⟩
  | _ => ⟨S1024x200x3, .f32⟩

abbrev hbmTy0_1 (i : Nat) : BufTy := match i % 128 with
  | 0 => ⟨S1024x200, .f32⟩
  | 1 => ⟨S1024x200, .i1⟩
  | 2 => ⟨S1024x200x1, .i1⟩
  | 3 => ⟨S1x256, .f32⟩
  | 4 => ⟨S256, .f32⟩
  | 5 => ⟨S1x1x256, .f32⟩
  | 6 => ⟨S_, .f32⟩
  | 7 => ⟨S_, .f32⟩
  | 8 => ⟨S1024x200x256, .i1⟩
  | 9 => ⟨S1024x200x256, .f32⟩
  | 10 => ⟨S1024x200x256, .f32⟩
  | 11 => ⟨S1024x200x256, .f32⟩
  | 12 => ⟨S1024x200x256, .f32⟩
  | 13 => ⟨S_, .f32⟩
  | 14 => ⟨S1024x200, .f32⟩
  | 15 => ⟨S1024x200, .i1⟩
  | 16 => ⟨S1024x200x1, .i1⟩
  | 17 => ⟨S1x256, .f32⟩
  | 18 => ⟨S256, .f32⟩
  | 19 => ⟨S1x1x256, .f32⟩
  | 20 => ⟨S_, .f32⟩
  | 21 => ⟨S_, .f32⟩
  | 22 => ⟨S1024x200x256, .i1⟩
  | 23 => ⟨S1024x200x256, .f32⟩
  | 24 => ⟨S1024x200x256, .f32⟩
  | 25 => ⟨S1024x200x256, .f32⟩
  | 26 => ⟨S1024x200x256, .f32⟩
  | 27 => ⟨S_, .f32⟩
  | 28 => ⟨S1024x200, .f32⟩
  | 29 => ⟨S1024x200, .i1⟩
  | 30 => ⟨S1024x200x1, .i1⟩
  | 31 => ⟨S1x256, .f32⟩
  | 32 => ⟨S256, .f32⟩
  | 33 => ⟨S1x1x256, .f32⟩
  | 34 => ⟨S_, .f32⟩
  | 35 => ⟨S_, .f32⟩
  | 36 => ⟨S1024x200x256, .i1⟩
  | 37 => ⟨S1024x200x256, .f32⟩
  | 38 => ⟨S1024x200x256, .f32⟩
  | 39 => ⟨S1024x200x256, .f32⟩
  | 40 => ⟨S1024x200x256, .f32⟩
  | 41 => ⟨S_, .f32⟩
  | 42 => ⟨S1024x200, .f32⟩
  | 43 => ⟨S1024x200, .i1⟩
  | 44 => ⟨S1024x200x1, .i1⟩
  | 45 => ⟨S1x256, .f32⟩
  | 46 => ⟨S256, .f32⟩
  | 47 => ⟨S1x1x256, .f32⟩
  | 48 => ⟨S_, .f32⟩
  | 49 => ⟨S_, .f32⟩
  | 50 => ⟨S1024x200x256, .i1⟩
  | 51 => ⟨S1024x200x256, .f32⟩
  | 52 => ⟨S1024x200x256, .f32⟩
  | 53 => ⟨S1024x200x256, .f32⟩
  | 54 => ⟨S1024x200x256, .f32⟩
  | 55 => ⟨S_, .f32⟩
  | 56 => ⟨S1024x200, .f32⟩
  | 57 => ⟨S1024x200, .i1⟩
  | 58 => ⟨S1024x200x1, .i1⟩
  | 59 => ⟨S1x256, .f32⟩
  | 60 => ⟨S256, .f32⟩
  | 61 => ⟨S1x1x256, .f32⟩
  | 62 => ⟨S_, .f32⟩
  | 63 => ⟨S_, .f32⟩
  | 64 => ⟨S1024x200x256, .i1⟩
  | 65 => ⟨S1024x200x256, .f32⟩
  | 66 => ⟨S1024x200x256, .f32⟩
  | 67 => ⟨S1024x200x256, .f32⟩
  | 68 => ⟨S1024x200x256, .f32⟩
  | 69 => ⟨S_, .f32⟩
  | 70 => ⟨S1024x200, .f32⟩
  | 71 => ⟨S1024x200, .i1⟩
  | 72 => ⟨S1024x200x1, .i1⟩
  | 73 => ⟨S1x256, .f32⟩
  | 74 => ⟨S256, .f32⟩
  | 75 => ⟨S1x1x256, .f32⟩
  | 76 => ⟨S_, .f32⟩
  | 77 => ⟨S_, .f32⟩
  | 78 => ⟨S1024x200x256, .i1⟩
  | 79 => ⟨S1024x200x256, .f32⟩
  | 80 => ⟨S1024x200x256, .f32⟩
  | 81 => ⟨S1024x200x256, .f32⟩
  | 82 => ⟨S1024x200x256, .f32⟩
  | 83 => ⟨S_, .f32⟩
  | 84 => ⟨S1024x200, .f32⟩
  | 85 => ⟨S1024x200, .i1⟩
  | 86 => ⟨S1024x200x1, .i1⟩
  | 87 => ⟨S1x256, .f32⟩
  | 88 => ⟨S256, .f32⟩
  | 89 => ⟨S1x1x256, .f32⟩
  | 90 => ⟨S_, .f32⟩
  | 91 => ⟨S_, .f32⟩
  | 92 => ⟨S1024x200x256, .i1⟩
  | 93 => ⟨S1024x200x256, .f32⟩
  | 94 => ⟨S1024x200x256, .f32⟩
  | 95 => ⟨S1024x200x256, .f32⟩
  | 96 => ⟨S1024x200x256, .f32⟩
  | 97 => ⟨S_, .f32⟩
  | 98 => ⟨S1024x200, .f32⟩
  | 99 => ⟨S1024x200, .i1⟩
  | 100 => ⟨S1024x200x1, .i1⟩
  | 101 => ⟨S1x256, .f32⟩
  | 102 => ⟨S256, .f32⟩
  | 103 => ⟨S1x1x256, .f32⟩
  | 104 => ⟨S_, .f32⟩
  | 105 => ⟨S_, .f32⟩
  | 106 => ⟨S1024x200x256, .i1⟩
  | 107 => ⟨S1024x200x256, .f32⟩
  | 108 => ⟨S1024x200x256, .f32⟩
  | 109 => ⟨S1024x200x256, .f32⟩
  | 110 => ⟨S1024x200x256, .f32⟩
  | 111 => ⟨S_, .f32⟩
  | 112 => ⟨S1024x200, .f32⟩
  | 113 => ⟨S1024x200, .i1⟩
  | 114 => ⟨S1024x200x1, .i1⟩
  | 115 => ⟨S1x256, .f32⟩
  | 116 => ⟨S256, .f32⟩
  | 117 => ⟨S1x1x256, .f32⟩
  | 118 => ⟨S_, .f32⟩
  | 119 => ⟨S_, .f32⟩
  | 120 => ⟨S1024x200x256, .i1⟩
  | 121 => ⟨S1024x200x256, .f32⟩
  | 122 => ⟨S1024x200x256, .f32⟩
  | 123 => ⟨S1024x200x256, .f32⟩
  | 124 => ⟨S1024x200x256, .f32⟩
  | 125 => ⟨S_, .f32⟩
  | 126 => ⟨S1024x200, .f32⟩
  | 127 => ⟨S1024x200, .i1⟩
  | _ => ⟨S1024x200x3, .f32⟩

abbrev hbmTy0_2 (i : Nat) : BufTy := match i % 128 with
  | 0 => ⟨S1024x200x1, .i1⟩
  | 1 => ⟨S1x256, .f32⟩
  | 2 => ⟨S256, .f32⟩
  | 3 => ⟨S1x1x256, .f32⟩
  | 4 => ⟨S_, .f32⟩
  | 5 => ⟨S_, .f32⟩
  | 6 => ⟨S1024x200x256, .i1⟩
  | 7 => ⟨S1024x200x256, .f32⟩
  | 8 => ⟨S1024x200x256, .f32⟩
  | 9 => ⟨S1024x200x256, .f32⟩
  | 10 => ⟨S1024x200x256, .f32⟩
  | 11 => ⟨S_, .f32⟩
  | 12 => ⟨S1024x200, .f32⟩
  | 13 => ⟨S1024x200, .i1⟩
  | 14 => ⟨S1024x200x1, .i1⟩
  | 15 => ⟨S1x256, .f32⟩
  | 16 => ⟨S256, .f32⟩
  | 17 => ⟨S1x1x256, .f32⟩
  | 18 => ⟨S_, .f32⟩
  | 19 => ⟨S_, .f32⟩
  | 20 => ⟨S1024x200x256, .i1⟩
  | 21 => ⟨S1024x200x256, .f32⟩
  | 22 => ⟨S1024x200x256, .f32⟩
  | 23 => ⟨S1024x200x256, .f32⟩
  | 24 => ⟨S1024x200x256, .f32⟩
  | 25 => ⟨S_, .f32⟩
  | 26 => ⟨S1024x200, .f32⟩
  | 27 => ⟨S1024x200, .i1⟩
  | 28 => ⟨S1024x200x1, .i1⟩
  | 29 => ⟨S1x256, .f32⟩
  | 30 => ⟨S256, .f32⟩
  | 31 => ⟨S1x1x256, .f32⟩
  | 32 => ⟨S_, .f32⟩
  | 33 => ⟨S_, .f32⟩
  | 34 => ⟨S1024x200x256, .i1⟩
  | 35 => ⟨S1024x200x256, .f32⟩
  | 36 => ⟨S1024x200x256, .f32⟩
  | 37 => ⟨S1024x200x256, .f32⟩
  | 38 => ⟨S1024x200x256, .f32⟩
  | 39 => ⟨S_, .f32⟩
  | 40 => ⟨S1024x200, .f32⟩
  | 41 => ⟨S1024x200, .i1⟩
  | 42 => ⟨S1024x200x1, .i1⟩
  | 43 => ⟨S1x256, .f32⟩
  | 44 => ⟨S256, .f32⟩
  | 45 => ⟨S1x1x256, .f32⟩
  | 46 => ⟨S_, .f32⟩
  | 47 => ⟨S_, .f32⟩
  | 48 => ⟨S1024x200x256, .i1⟩
  | 49 => ⟨S1024x200x256, .f32⟩
  | 50 => ⟨S1024x200x256, .f32⟩
  | 51 => ⟨S1024x200x256, .f32⟩
  | 52 => ⟨S1024x200x256, .f32⟩
  | 53 => ⟨S_, .f32⟩
  | 54 => ⟨S1024x200, .f32⟩
  | 55 => ⟨S1024x200, .i1⟩
  | 56 => ⟨S1024x200, .f32⟩
  | _ => ⟨S1024x200x3, .f32⟩

abbrev hbmTy (i : Nat) : BufTy := match i / 128 with
  | 0 => hbmTy0_0 i
  | 1 => hbmTy0_1 i
  | 2 => hbmTy0_2 i
  | _ => ⟨S1024x200x3, .f32⟩

abbrev bufTy : (tb : Table) → Fin (tcTables nBuf tb) → BufTy
  | .hbm, ⟨i, _⟩ => hbmTy i
  | _, _ => ⟨S1024x200x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_call2_v0 : Ref sig .tc := ⟨.hbm, 60, rfl⟩
abbrev main_call2_v1 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call3_v0 : Ref sig .tc := ⟨.hbm, 68, rfl⟩
abbrev main_call3_v1 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_call4_v0 : Ref sig .tc := ⟨.hbm, 79, rfl⟩
abbrev main_call4_v1 : Ref sig .tc := ⟨.hbm, 80, rfl⟩
abbrev main_call4_v2 : Ref sig .tc := ⟨.hbm, 81, rfl⟩
abbrev main_call4_v3 : Ref sig .tc := ⟨.hbm, 82, rfl⟩
abbrev main_v55 : Ref sig .tc := ⟨.hbm, 83, rfl⟩
abbrev main_v56 : Ref sig .tc := ⟨.hbm, 84, rfl⟩
abbrev main_cst_14 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_15 : Ref sig .tc := ⟨.hbm, 92, rfl⟩
abbrev main_call5_v0 : Ref sig .tc := ⟨.hbm, 93, rfl⟩
abbrev main_call5_v1 : Ref sig .tc := ⟨.hbm, 94, rfl⟩
abbrev main_call5_v2 : Ref sig .tc := ⟨.hbm, 95, rfl⟩
abbrev main_call5_v3 : Ref sig .tc := ⟨.hbm, 96, rfl⟩
abbrev main_v63 : Ref sig .tc := ⟨.hbm, 97, rfl⟩
abbrev main_v64 : Ref sig .tc := ⟨.hbm, 98, rfl⟩
abbrev main_cst_16 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_17 : Ref sig .tc := ⟨.hbm, 106, rfl⟩
abbrev main_call6_v0 : Ref sig .tc := ⟨.hbm, 107, rfl⟩
abbrev main_call6_v1 : Ref sig .tc := ⟨.hbm, 108, rfl⟩
abbrev main_call6_v2 : Ref sig .tc := ⟨.hbm, 109, rfl⟩
abbrev main_call6_v3 : Ref sig .tc := ⟨.hbm, 110, rfl⟩
abbrev main_v71 : Ref sig .tc := ⟨.hbm, 111, rfl⟩
abbrev main_v72 : Ref sig .tc := ⟨.hbm, 112, rfl⟩
abbrev main_cst_18 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_19 : Ref sig .tc := ⟨.hbm, 120, rfl⟩
abbrev main_call7_v0 : Ref sig .tc := ⟨.hbm, 121, rfl⟩
abbrev main_call7_v1 : Ref sig .tc := ⟨.hbm, 122, rfl⟩
abbrev main_call7_v2 : Ref sig .tc := ⟨.hbm, 123, rfl⟩
abbrev main_call7_v3 : Ref sig .tc := ⟨.hbm, 124, rfl⟩
abbrev main_v79 : Ref sig .tc := ⟨.hbm, 125, rfl⟩
abbrev main_v80 : Ref sig .tc := ⟨.hbm, 126, rfl⟩
abbrev main_cst_20 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_21 : Ref sig .tc := ⟨.hbm, 134, rfl⟩
abbrev main_call8_v0 : Ref sig .tc := ⟨.hbm, 135, rfl⟩
abbrev main_call8_v1 : Ref sig .tc := ⟨.hbm, 136, rfl⟩
abbrev main_call8_v2 : Ref sig .tc := ⟨.hbm, 137, rfl⟩
abbrev main_call8_v3 : Ref sig .tc := ⟨.hbm, 138, rfl⟩
abbrev main_v87 : Ref sig .tc := ⟨.hbm, 139, rfl⟩
abbrev main_v88 : Ref sig .tc := ⟨.hbm, 140, rfl⟩
abbrev main_cst_22 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_cst_23 : Ref sig .tc := ⟨.hbm, 148, rfl⟩
abbrev main_call9_v0 : Ref sig .tc := ⟨.hbm, 149, rfl⟩
abbrev main_call9_v1 : Ref sig .tc := ⟨.hbm, 150, rfl⟩
abbrev main_call9_v2 : Ref sig .tc := ⟨.hbm, 151, rfl⟩
abbrev main_call9_v3 : Ref sig .tc := ⟨.hbm, 152, rfl⟩
abbrev main_v95 : Ref sig .tc := ⟨.hbm, 153, rfl⟩
abbrev main_v96 : Ref sig .tc := ⟨.hbm, 154, rfl⟩
abbrev main_cst_24 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_cst_25 : Ref sig .tc := ⟨.hbm, 162, rfl⟩
abbrev main_call10_v0 : Ref sig .tc := ⟨.hbm, 163, rfl⟩
abbrev main_call10_v1 : Ref sig .tc := ⟨.hbm, 164, rfl⟩
abbrev main_call10_v2 : Ref sig .tc := ⟨.hbm, 165, rfl⟩
abbrev main_call10_v3 : Ref sig .tc := ⟨.hbm, 166, rfl⟩
abbrev main_v103 : Ref sig .tc := ⟨.hbm, 167, rfl⟩
abbrev main_v104 : Ref sig .tc := ⟨.hbm, 168, rfl⟩
abbrev main_cst_26 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_cst_27 : Ref sig .tc := ⟨.hbm, 176, rfl⟩
abbrev main_call11_v0 : Ref sig .tc := ⟨.hbm, 177, rfl⟩
abbrev main_call11_v1 : Ref sig .tc := ⟨.hbm, 178, rfl⟩
abbrev main_call11_v2 : Ref sig .tc := ⟨.hbm, 179, rfl⟩
abbrev main_call11_v3 : Ref sig .tc := ⟨.hbm, 180, rfl⟩
abbrev main_v111 : Ref sig .tc := ⟨.hbm, 181, rfl⟩
abbrev main_v112 : Ref sig .tc := ⟨.hbm, 182, rfl⟩
abbrev main_cst_28 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_cst_29 : Ref sig .tc := ⟨.hbm, 190, rfl⟩
abbrev main_call12_v0 : Ref sig .tc := ⟨.hbm, 191, rfl⟩
abbrev main_call12_v1 : Ref sig .tc := ⟨.hbm, 192, rfl⟩
abbrev main_call12_v2 : Ref sig .tc := ⟨.hbm, 193, rfl⟩
abbrev main_call12_v3 : Ref sig .tc := ⟨.hbm, 194, rfl⟩
abbrev main_v119 : Ref sig .tc := ⟨.hbm, 195, rfl⟩
abbrev main_v120 : Ref sig .tc := ⟨.hbm, 196, rfl⟩
abbrev main_cst_30 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_cst_31 : Ref sig .tc := ⟨.hbm, 204, rfl⟩
abbrev main_call13_v0 : Ref sig .tc := ⟨.hbm, 205, rfl⟩
abbrev main_call13_v1 : Ref sig .tc := ⟨.hbm, 206, rfl⟩
abbrev main_call13_v2 : Ref sig .tc := ⟨.hbm, 207, rfl⟩
abbrev main_call13_v3 : Ref sig .tc := ⟨.hbm, 208, rfl⟩
abbrev main_v127 : Ref sig .tc := ⟨.hbm, 209, rfl⟩
abbrev main_v128 : Ref sig .tc := ⟨.hbm, 210, rfl⟩
abbrev main_cst_32 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_cst_33 : Ref sig .tc := ⟨.hbm, 218, rfl⟩
abbrev main_call14_v0 : Ref sig .tc := ⟨.hbm, 219, rfl⟩
abbrev main_call14_v1 : Ref sig .tc := ⟨.hbm, 220, rfl⟩
abbrev main_call14_v2 : Ref sig .tc := ⟨.hbm, 221, rfl⟩
abbrev main_call14_v3 : Ref sig .tc := ⟨.hbm, 222, rfl⟩
abbrev main_v135 : Ref sig .tc := ⟨.hbm, 223, rfl⟩
abbrev main_v136 : Ref sig .tc := ⟨.hbm, 224, rfl⟩
abbrev main_cst_34 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_cst_35 : Ref sig .tc := ⟨.hbm, 232, rfl⟩
abbrev main_call15_v0 : Ref sig .tc := ⟨.hbm, 233, rfl⟩
abbrev main_call15_v1 : Ref sig .tc := ⟨.hbm, 234, rfl⟩
abbrev main_call15_v2 : Ref sig .tc := ⟨.hbm, 235, rfl⟩
abbrev main_call15_v3 : Ref sig .tc := ⟨.hbm, 236, rfl⟩
abbrev main_v143 : Ref sig .tc := ⟨.hbm, 237, rfl⟩
abbrev main_v144 : Ref sig .tc := ⟨.hbm, 238, rfl⟩
abbrev main_cst_36 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_v150 : Ref sig .tc := ⟨.hbm, 245, rfl⟩
abbrev main_cst_37 : Ref sig .tc := ⟨.hbm, 246, rfl⟩
abbrev main_call16_v0 : Ref sig .tc := ⟨.hbm, 247, rfl⟩
abbrev main_call16_v1 : Ref sig .tc := ⟨.hbm, 248, rfl⟩
abbrev main_call16_v2 : Ref sig .tc := ⟨.hbm, 249, rfl⟩
abbrev main_call16_v3 : Ref sig .tc := ⟨.hbm, 250, rfl⟩
abbrev main_v151 : Ref sig .tc := ⟨.hbm, 251, rfl⟩
abbrev main_v152 : Ref sig .tc := ⟨.hbm, 252, rfl⟩
abbrev main_cst_38 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_v156 : Ref sig .tc := ⟨.hbm, 257, rfl⟩
abbrev main_v157 : Ref sig .tc := ⟨.hbm, 258, rfl⟩
abbrev main_v158 : Ref sig .tc := ⟨.hbm, 259, rfl⟩
abbrev main_cst_39 : Ref sig .tc := ⟨.hbm, 260, rfl⟩
abbrev main_call17_v0 : Ref sig .tc := ⟨.hbm, 261, rfl⟩
abbrev main_call17_v1 : Ref sig .tc := ⟨.hbm, 262, rfl⟩
abbrev main_call17_v2 : Ref sig .tc := ⟨.hbm, 263, rfl⟩
abbrev main_call17_v3 : Ref sig .tc := ⟨.hbm, 264, rfl⟩
abbrev main_v159 : Ref sig .tc := ⟨.hbm, 265, rfl⟩
abbrev main_v160 : Ref sig .tc := ⟨.hbm, 266, rfl⟩
abbrev main_cst_40 : Ref sig .tc := ⟨.hbm, 267, rfl⟩
abbrev main_v161 : Ref sig .tc := ⟨.hbm, 268, rfl⟩
abbrev main_v162 : Ref sig .tc := ⟨.hbm, 269, rfl⟩
abbrev main_v163 : Ref sig .tc := ⟨.hbm, 270, rfl⟩
abbrev main_v164 : Ref sig .tc := ⟨.hbm, 271, rfl⟩
abbrev main_v165 : Ref sig .tc := ⟨.hbm, 272, rfl⟩
abbrev main_v166 : Ref sig .tc := ⟨.hbm, 273, rfl⟩
abbrev main_cst_41 : Ref sig .tc := ⟨.hbm, 274, rfl⟩
abbrev main_call18_v0 : Ref sig .tc := ⟨.hbm, 275, rfl⟩
abbrev main_call18_v1 : Ref sig .tc := ⟨.hbm, 276, rfl⟩
abbrev main_call18_v2 : Ref sig .tc := ⟨.hbm, 277, rfl⟩
abbrev main_call18_v3 : Ref sig .tc := ⟨.hbm, 278, rfl⟩
abbrev main_v167 : Ref sig .tc := ⟨.hbm, 279, rfl⟩
abbrev main_v168 : Ref sig .tc := ⟨.hbm, 280, rfl⟩
abbrev main_cst_42 : Ref sig .tc := ⟨.hbm, 281, rfl⟩
abbrev main_v169 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_v173 : Ref sig .tc := ⟨.hbm, 286, rfl⟩
abbrev main_v174 : Ref sig .tc := ⟨.hbm, 287, rfl⟩
abbrev main_cst_43 : Ref sig .tc := ⟨.hbm, 288, rfl⟩
abbrev main_call19_v0 : Ref sig .tc := ⟨.hbm, 289, rfl⟩
abbrev main_call19_v1 : Ref sig .tc := ⟨.hbm, 290, rfl⟩
abbrev main_call19_v2 : Ref sig .tc := ⟨.hbm, 291, rfl⟩
abbrev main_call19_v3 : Ref sig .tc := ⟨.hbm, 292, rfl⟩
abbrev main_v175 : Ref sig .tc := ⟨.hbm, 293, rfl⟩
abbrev main_v176 : Ref sig .tc := ⟨.hbm, 294, rfl⟩
abbrev main_cst_44 : Ref sig .tc := ⟨.hbm, 295, rfl⟩
abbrev main_v177 : Ref sig .tc := ⟨.hbm, 296, rfl⟩
abbrev main_v178 : Ref sig .tc := ⟨.hbm, 297, rfl⟩
abbrev main_v179 : Ref sig .tc := ⟨.hbm, 298, rfl⟩
abbrev main_v180 : Ref sig .tc := ⟨.hbm, 299, rfl⟩
abbrev main_v181 : Ref sig .tc := ⟨.hbm, 300, rfl⟩
abbrev main_v182 : Ref sig .tc := ⟨.hbm, 301, rfl⟩
abbrev main_cst_45 : Ref sig .tc := ⟨.hbm, 302, rfl⟩
abbrev main_call20_v0 : Ref sig .tc := ⟨.hbm, 303, rfl⟩
abbrev main_call20_v1 : Ref sig .tc := ⟨.hbm, 304, rfl⟩
abbrev main_call20_v2 : Ref sig .tc := ⟨.hbm, 305, rfl⟩
abbrev main_call20_v3 : Ref sig .tc := ⟨.hbm, 306, rfl⟩
abbrev main_v183 : Ref sig .tc := ⟨.hbm, 307, rfl⟩
abbrev main_v184 : Ref sig .tc := ⟨.hbm, 308, rfl⟩
abbrev main_cst_46 : Ref sig .tc := ⟨.hbm, 309, rfl⟩
abbrev main_v185 : Ref sig .tc := ⟨.hbm, 310, rfl⟩
abbrev main_v186 : Ref sig .tc := ⟨.hbm, 311, rfl⟩
abbrev main_v187 : Ref sig .tc := ⟨.hbm, 312, rfl⟩

abbrev nD : Nat := 1
abbrev τ : Topo := Topo.v7x

variable {F : FTy → Type} [FloatOps F]
-- ==== Proof.Element.lean ====
/- One element of each result, as a function of the few numbers it depends on: the two coordinates of its row, the
   row's label, two entries of the projection and one column of the table of embeddings. Nothing here mentions a
   program, a block or an index of an array. -/
module

public import Idealize.ShloMosaic.Lib.Pointwise

@[expose] public section

noncomputable section

namespace Cert.Element

open Idealize.ShloMosaic

/-- The projected coordinate, in turns. -/
def turns (xy g : Fin 2 → EReal) : EReal :=
  ∑ d : Fin 2, (Ideal.ofBits .f32 0x40000000#32 * xy d - 1) * g d

/-- What is left of a number of turns past the nearest whole one. -/
def rest (t : EReal) : EReal := t - Ideal.liftRound Ideal.roundHalfEven t

/-- The kernel's polynomial for the sine of `r` turns. -/
def sineFit (r : EReal) : EReal :=
  (((Ideal.ofBits .f32 0xC268589A#32 * (r * r) + Ideal.ofBits .f32 0x429D9DEA#32) * (r * r)
    + Ideal.ofBits .f32 0xC224D0F5#32) * (r * r) + Ideal.ofBits .f32 0x40C90712#32) * r

/-- The kernel's polynomial for the cosine of `r` turns. -/
def cosineFit (r : EReal) : EReal :=
  (((Ideal.ofBits .f32 0x423661D7#32 * (r * r) + Ideal.ofBits .f32 0xC2A4C18E#32) * (r * r)
    + Ideal.ofBits .f32 0x428156C1#32) * (r * r) + Ideal.ofBits .f32 0xC19DD8C4#32) * (r * r)
    + Ideal.ofBits .f32 0x3F7FFD43#32

/-- The wave of column `e` at the projections `t` of the row: a sine in the first half, a cosine in the second. -/
def wave (sine cosine : EReal → EReal) (t : Fin 128 → EReal) (e : Fin 256) : EReal :=
  if h : e.val < 128 then sine (t ⟨e.val, h⟩) else cosine (t ⟨e.val - 128, by omega⟩)

/-- A bit as the kernel makes a number of it: widened to a word and converted. -/
def bit (b : BitVec 1) : EReal := FloatOps.sitofp (F := Ideal) .f32 (BitVec.setWidth 32 b)

/-- The row's label as the kernel reads it: a 32-bit integer. -/
def word (l : EReal) : BitVec 32 := FloatOps.fptosi (F := Ideal) (φ := .f32) 32 l

/-- The kernel's element of the first result: the wave `w` where the label is not negative, and the table's row the
    label names. -/
def encoded (w l : EReal) (table : Fin 19 → EReal) : EReal :=
  w * bit (IntOp.cmpi .sge (word l) 0#32)
    + ∑ x : Fin 19, bit (IntOp.cmpi .eq (word l) (IntOp.subi (BitVec.ofNat 32 x.val) 2#32)) * table x

/-- The kernel's element of the second result. -/
def masked (l : EReal) : EReal := bit (IntOp.cmpi .sgt (word l) 4294967294#32)

end Cert.Element

end
-- ==== Proof.KernelBlock.lean ====
/- What the kernel leaves in one block of each result: every element is `Element.encoded` or `Element.masked` of the
   row's numbers. The eight trips of the loop write disjoint bands of rows; each band's stores hold the same function
   of the row and the column, so the block holds it. -/
module

public import proofs.«01_k».proof.Proof.Element
public import proofs.«01_k».proof.Proof.Gen.KernelIdeal.Frame
public import Idealize.ShloMosaic.Lib.WholeRead

@[expose] public section

set_option maxRecDepth 16384

noncomputable section

namespace Cert.KernelBlock

open Idealize.ShloMosaic Idealize.ShloMosaic.TcCoe Idealize.SL.Sem
open Cert.KernelIdeal Cert.KernelIdeal.Gen Cert.Element

/-- The first result's block, from the blocks of the keypoints, of the projection and of the table. -/
def out (x0 : Vec Ideal S12800x3 .f32) (x1 : Vec Ideal S2x128 .f32) (x2 : Vec Ideal S19x256 .f32) :
    Vec Ideal S12800x256 .f32 := fun y =>
  encoded (wave (fun t => sineFit (rest t)) (fun t => cosineFit (rest t))
      (fun j => turns (fun d => x0 (ix2 (y 0) ⟨d.val, by omega⟩)) (fun d => x1 (ix2 d j))) (y 1))
    (x0 (ix2 (y 0) 2)) (fun x => x2 (ix2 x (y 1)))

/-- The second result's block. -/
def mask (x0 : Vec Ideal S12800x3 .f32) : Vec Ideal S12800x1 .f32 := fun y => masked (x0 (ix2 (y 0) 2))

/-! ## The three values a trip stores -/

theorem sine_store (v0 : Vec Ideal S2x128 .f32) (v2 : Vec Ideal S19x256 .f32) (v7 : Vec Ideal S1600x3 .f32)
    (p : Fin 1600) (j : Fin 128) :
    k0_pay3 v2 (k0_pay7 v7) (k0_pay10 (k0_pay1 v0) v7) (k0_pay12 v7) (ix2 p j)
      = encoded (sineFit (rest (turns (fun d => v7 (ix2 p ⟨d.val, by omega⟩)) (fun d => v0 (ix2 d j)))))
          (v7 (ix2 p 2)) (fun x => v2 (ix2 x ⟨j.val, by omega⟩)) := by
  pointwise [k0_pay3, k0_pay2, k0_pay7, k0_pay10, k0_pay1, k0_pay12, k0_pay9, k0_pay8, k0_pay6]
  rfl

theorem cosine_store (v0 : Vec Ideal S2x128 .f32) (v2 : Vec Ideal S19x256 .f32) (v7 : Vec Ideal S1600x3 .f32)
    (p : Fin 1600) (j : Fin 128) :
    k0_pay4 v2 (k0_pay7 v7) (k0_pay11 (k0_pay1 v0) v7) (k0_pay12 v7) (ix2 p j)
      = encoded (cosineFit (rest (turns (fun d => v7 (ix2 p ⟨d.val, by omega⟩)) (fun d => v0 (ix2 d j)))))
          (v7 (ix2 p 2)) (fun x => v2 (ix2 x ⟨128 + j.val, by omega⟩)) := by
  pointwise [k0_pay4, k0_pay2, k0_pay7, k0_pay11, k0_pay1, k0_pay12, k0_pay9, k0_pay8, k0_pay6]
  rfl

theorem mask_store (v7 : Vec Ideal S1600x3 .f32) (p : Fin 1600) (j : Fin 1) :
    k0_pay5 (F := Ideal) (k0_pay7 v7) (ix2 p j) = masked (v7 (ix2 p 2)) := by
  pointwise [k0_pay5, k0_pay7, k0_pay6]
  rfl

/-! ## The block's function on each half of a row, and a piece's place in the block -/

theorem out_sine (x0 : Vec Ideal S12800x3 .f32) (x1 : Vec Ideal S2x128 .f32) (x2 : Vec Ideal S19x256 .f32)
    (r : Fin 12800) (j : Fin 128) (h : 0 + j.val < 256) :
    out x0 x1 x2 (ix2 r ⟨0 + j.val, h⟩)
      = encoded (sineFit (rest (turns (fun d => x0 (ix2 r ⟨d.val, by omega⟩)) (fun d => x1 (ix2 d j)))))
          (x0 (ix2 r 2)) (fun x => x2 (ix2 x ⟨j.val, by omega⟩)) := by
  have e : (⟨0 + j.val, h⟩ : Fin 256) = ⟨j.val, by omega⟩ := Fin.ext (Nat.zero_add _)
  rw [e]
  unfold out wave
  rw [dif_pos (show ((ix2 r (⟨j.val, by omega⟩ : Fin 256) : S12800x256.Idx) 1).val < 128 from j.isLt)]
  rfl

theorem out_cosine (x0 : Vec Ideal S12800x3 .f32) (x1 : Vec Ideal S2x128 .f32) (x2 : Vec Ideal S19x256 .f32)
    (r : Fin 12800) (j : Fin 128) :
    out x0 x1 x2 (ix2 r ⟨128 + j.val, by omega⟩)
      = encoded (cosineFit (rest (turns (fun d => x0 (ix2 r ⟨d.val, by omega⟩)) (fun d => x1 (ix2 d j)))))
          (x0 (ix2 r 2)) (fun x => x2 (ix2 x ⟨128 + j.val, by omega⟩)) := by
  have e : (⟨128 + j.val - 128, by omega⟩ : Fin 128) = j := Fin.ext (Nat.add_sub_cancel_left _ _)
  unfold out wave
  rw [dif_neg (show ¬ ((ix2 r (⟨128 + j.val, by omega⟩ : Fin 256) : S12800x256.Idx) 1).val < 128 from
    Nat.not_lt.mpr (Nat.le_add_right _ _))]
  show encoded (cosineFit (rest (turns _ (fun d => x1 (ix2 d ⟨128 + j.val - 128, _⟩))))) _ _ = _
  rw [e]
  rfl

/-- Where a rectangle at rows `r` and columns `q` puts its element `(p, j)`. -/
theorem place {n m h w r q : ℕ} {off : Fin 2 → ℕ} (e : off = ![r, q])
    (inb : ∀ a, off a + (![h, w] : Fin 2 → ℕ) a ≤ (⟨2, ![n, m]⟩ : Shape).size a) (p : Fin h) (j : Fin w)
    (hr : r + p.val < n) (hq : q + j.val < m) :
    (Rect.unit (s := ⟨2, ![n, m]⟩) off ![h, w] inb).emb (ix2 p j) = ix2 ⟨r + p.val, hr⟩ ⟨q + j.val, hq⟩ := by
  subst e
  funext a
  match a with
  | ⟨0, _⟩ => exact Fin.ext (show r + 1 * p.val = r + p.val by omega)
  | ⟨1, _⟩ => exact Fin.ext (show q + 1 * j.val = q + j.val by omega)

/-! ## The pieces of one trip and of all trips -/

section Pieces

variable (𝒱 : Variants) (c : Dev nD) (bd : Option 𝒱.V) (i : grid0.Coords) (arg1 : Memref sig .tc .vmem S12800x3 .f32)
  (harg1 : arg1.IsWhole) (arg2 : Memref sig .tc .vmem S2x128 .f32) (harg2 : arg2.IsWhole)
  (arg3 : Memref sig .tc .vmem S19x256 .f32) (harg3 : arg3.IsWhole) (arg4 : Memref sig .tc .vmem S12800x256 .f32)
  (harg4 : arg4.IsWhole) (arg5 : Memref sig .tc .vmem S12800x1 .f32) (harg5 : arg5.IsWhole)
  (x0 : Vec Ideal S12800x3 .f32) (v0 : Vec Ideal S2x128 .f32) (v2 : Vec Ideal S19x256 .f32)

/-- The band of rows trip `k` reads. -/
theorem band_apply (k : Fin k0_t1_loop.trips) (p : Fin 1600) (a : Fin 3) (h : 1600 * k.val + p.val < 12800) :
    View.readAt (Elt Ideal) arg1.view (Rect.unit (s := S12800x3) (k0_off1 k) S1600x3.size (k0_off1_inb k)).toLoadRect
      (harg1.unread x0) (ix2 p a) = x0 (ix2 ⟨1600 * k.val + p.val, h⟩ a) := by
  rw [View.readAt_unit_congr_cast _ (k0_off1_eq k), View.readAt_eq_ld, harg1.read_unread]
  pointwise

theorem trip_out (k : Fin k0_t1_loop.trips) :
    ∀ q ∈ (tripL_k0_t1 (F := Ideal) 𝒱 c bd i arg1 harg1 arg2 harg2 arg3 harg3 arg4 harg4 arg5 harg5 v0 v2
        (harg1.unread x0) k).1, ∀ x : q.1.shape.Idx, q.2 x = out x0 v0 v2 (q.1.emb x) := by
  have hk : k.val < 8 := Nat.lt_of_lt_of_le k.isLt k0_t1_abs.2.1
  unfold tripL_k0_t1 trip_k0_t1
  dsimp only
  sl_unfold_run_names
  intro q hq
  rcases List.mem_cons.mp hq with rfl | hq
  · intro x
    obtain ⟨p, j, rfl⟩ : ∃ (p : Fin 1600) (j : Fin 128), x = ix2 p j := ⟨x 0, x 1, eq_ix2 x⟩
    refine (cosine_store _ _ _ p j).trans ?_
    refine Eq.trans ?_ (congrArg (out x0 v0 v2) (place (off := k0_off3 k) (k0_off3_eq k) (k0_off3_inb k) p j (by omega) (by omega)).symm)
    simp only [band_apply arg1 harg1 x0 k p _ (by omega)]
    exact (out_cosine x0 v0 v2 _ j).symm
  · obtain rfl := List.mem_singleton.mp hq
    intro x
    obtain ⟨p, j, rfl⟩ : ∃ (p : Fin 1600) (j : Fin 128), x = ix2 p j := ⟨x 0, x 1, eq_ix2 x⟩
    refine (sine_store _ _ _ p j).trans ?_
    refine Eq.trans ?_ (congrArg (out x0 v0 v2) (place (off := k0_off2 k) (k0_off2_eq k) (k0_off2_inb k) p j (by omega) (by omega)).symm)
    simp only [band_apply arg1 harg1 x0 k p _ (by omega)]
    exact (out_sine x0 v0 v2 _ j _).symm

theorem trip_mask (k : Fin k0_t1_loop.trips) :
    ∀ q ∈ (tripL_k0_t1 (F := Ideal) 𝒱 c bd i arg1 harg1 arg2 harg2 arg3 harg3 arg4 harg4 arg5 harg5 v0 v2
        (harg1.unread x0) k).2, ∀ x : q.1.shape.Idx, q.2 x = mask x0 (q.1.emb x) := by
  have hk : k.val < 8 := Nat.lt_of_lt_of_le k.isLt k0_t1_abs.2.1
  unfold tripL_k0_t1 trip_k0_t1
  dsimp only
  sl_unfold_run_names
  intro q hq
  obtain rfl := List.mem_singleton.mp hq
  intro x
  obtain ⟨p, j, rfl⟩ : ∃ (p : Fin 1600) (j : Fin 1), x = ix2 p j := ⟨x 0, x 1, eq_ix2 x⟩
  refine (mask_store _ p j).trans ?_
  refine Eq.trans ?_ (congrArg (mask x0) (place (off := k0_off4 k) (k0_off4_eq k) (k0_off4_inb k) p j (by omega) (by omega)).symm)
  rw [band_apply arg1 harg1 x0 k p _ (by omega)]
  rfl

/-- Every piece of the trips before `k` holds the block's function. -/
theorem pieces_all (k : ℕ) (hk : k ≤ k0_t1_loop.trips) :
    (∀ q ∈ (pb_k0_t1 (F := Ideal) 𝒱 c bd i arg1 harg1 arg2 harg2 arg3 harg3 arg4 harg4 arg5 harg5 v0 v2
        (harg1.unread x0) k).1, ∀ x : q.1.shape.Idx, q.2 x = out x0 v0 v2 (q.1.emb x))
    ∧ ∀ q ∈ (pb_k0_t1 (F := Ideal) 𝒱 c bd i arg1 harg1 arg2 harg2 arg3 harg3 arg4 harg4 arg5 harg5 v0 v2
        (harg1.unread x0) k).2, ∀ x : q.1.shape.Idx, q.2 x = mask x0 (q.1.emb x) := by
  induction k with
  | zero => exact ⟨fun q hq => absurd hq List.not_mem_nil, fun q hq => absurd hq List.not_mem_nil⟩
  | succ k ih =>
    obtain ⟨ho, hm⟩ := ih (by omega)
    rw [show k + 1 = (⟨k, by omega⟩ : Fin k0_t1_loop.trips).val + 1 from rfl, pb_k0_t1_succ]
    refine ⟨fun q hq => ?_, fun q hq => ?_⟩
    · rcases List.mem_append.mp hq with hq | hq
      · exact trip_out 𝒱 c bd i arg1 harg1 arg2 harg2 arg3 harg3 arg4 harg4 arg5 harg5 x0 v0 v2 _ q hq
      · exact ho q hq
    · rcases List.mem_append.mp hq with hq | hq
      · exact trip_mask 𝒱 c bd i arg1 harg1 arg2 harg2 arg3 harg3 arg4 harg4 arg5 harg5 x0 v0 v2 _ q hq
      · exact hm q hq

end Pieces

/-! ## The block after the body -/

section Block

variable (c : Dev nD) (i : grid0.Coords) (arg1 : Memref sig .tc .vmem S12800x3 .f32)
  (harg1 : arg1.IsWhole) (arg2 : Memref sig .tc .vmem S2x128 .f32) (harg2 : arg2.IsWhole)
  (arg3 : Memref sig .tc .vmem S19x256 .f32) (harg3 : arg3.IsWhole) (arg4 : Memref sig .tc .vmem S12800x256 .f32)
  (harg4 : arg4.IsWhole) (arg5 : Memref sig .tc .vmem S12800x1 .f32) (harg5 : arg5.IsWhole)
  (x0 : Vec Ideal S12800x3 .f32) (x1 : Vec Ideal S2x128 .f32) (x2 : Vec Ideal S19x256 .f32)

/-- A load of a whole block reads the block. -/
theorem load_projection : View.readAt (Elt Ideal) arg2.view
    (Rect.unit (s := S2x128) ![0, 0] ![2, 128] inb_S2x128_S2x128_0_0).toLoadRect (harg2.unread x1) = x1 := by
  rw [View.readAt_eq_ld, harg2.read_unread]
  funext y
  obtain ⟨p, j, rfl⟩ : ∃ (p : Fin 2) (j : Fin 128), y = ix2 p j := ⟨y 0, y 1, eq_ix2 y⟩
  pointwise

theorem load_table : View.readAt (Elt Ideal) arg3.view
    (Rect.unit (s := S19x256) ![0, 0] ![19, 256] inb_S19x256_S19x256_0_0).toLoadRect (harg3.unread x2) = x2 := by
  rw [View.readAt_eq_ld, harg3.read_unread]
  funext y
  obtain ⟨p, j, rfl⟩ : ∃ (p : Fin 19) (j : Fin 256), y = ix2 p j := ⟨y 0, y 1, eq_ix2 y⟩
  pointwise

theorem block_out : out0_A_3 (F := Ideal) c i arg1 harg1 arg2 harg2 arg3 harg3 arg4 harg4 arg5 harg5 x0 x1 x2
    = out x0 x1 x2 := by
  funext y
  refine View.read_writes_apply_of_pieces _ _ (out x0 x1 x2) _ ?_ y
    (cover0_A_3 c i arg1 harg1 arg2 harg2 arg3 harg3 arg4 harg4 arg5 harg5 x0 x1 x2 y)
  unfold kernelRun0_A
  dsimp only
  sl_unfold_run_names
  rw [load_projection, load_table]
  exact (pieces_all _ c _ i arg1 harg1 arg2 harg2 arg3 harg3 arg4 harg4 arg5 harg5 x0 x1 x2 _ (le_refl _)).1

theorem block_mask : out0_A_4 (F := Ideal) c i arg1 harg1 arg2 harg2 arg3 harg3 arg4 harg4 arg5 harg5 x0 x1 x2
    = mask x0 := by
  funext y
  refine View.read_writes_apply_of_pieces _ _ (mask x0) _ ?_ y
    (cover0_A_4 c i arg1 harg1 arg2 harg2 arg3 harg3 arg4 harg4 arg5 harg5 x0 x1 x2 y)
  unfold kernelRun0_A
  dsimp only
  sl_unfold_run_names
  rw [load_projection, load_table]
  exact (pieces_all _ c _ i arg1 harg1 arg2 harg2 arg3 harg3 arg4 harg4 arg5 harg5 x0 x1 x2 _ (le_refl _)).2

end Block

end Cert.KernelBlock

end
-- ==== Proof.KernelArrays.lean ====
/- The arrays the kernel's pipeline leaves: every row of the two results, from the same row of the keypoints. -/
module

public import proofs.«01_k».proof.Proof.KernelBlock
public import Idealize.ShloMosaic.Lib.Pipeline.ValueKit

@[expose] public section

set_option maxRecDepth 16384

noncomputable section

namespace Cert.KernelArrays

open Idealize.ShloMosaic Idealize.ShloMosaic.TcCoe Idealize.SL.Sem
open Cert.KernelIdeal Cert.KernelIdeal.Gen Cert.Element

/-- The first result's array, from the arrays the pipeline reads. -/
def outRows (x0 : Vec Ideal S204800x3 .f32) (x1 : Vec Ideal S2x128 .f32) (x2 : Vec Ideal S19x256 .f32) :
    Vec Ideal S204800x256 .f32 := fun y =>
  encoded (wave (fun t => sineFit (rest t)) (fun t => cosineFit (rest t))
      (fun j => turns (fun d => x0 (ix2 (y 0) ⟨d.val, by omega⟩)) (fun d => x1 (ix2 d j))) (y 1))
    (x0 (ix2 (y 0) 2)) (fun x => x2 (ix2 x (y 1)))

/-- The second result's array. -/
def maskRows (x0 : Vec Ideal S204800x3 .f32) : Vec Ideal S204800x1 .f32 := fun y => masked (x0 (ix2 (y 0) 2))

variable (m : (ℓ : Loc nD τ sig) → Buf (Elt Ideal) ℓ)

theorem index_rows : ∀ t : Fin grid0.N, win0_0.index t = ![(grid0.coords t 0).val, 0]
    ∧ win0_3.index t = ![(grid0.coords t 0).val, 0] ∧ win0_4.index t = ![(grid0.coords t 0).val, 0]
    ∧ win0_1.index t = ![0, 0] ∧ win0_2.index t = ![0, 0] := by decide +kernel

/-- A block of the keypoints is the rows its point names. -/
theorem points_read (c : Dev nD) (t : Fin cfg0.N) (p : Fin 12800) (d : Fin 3) (r : Fin 204800)
    (h : r.val = (grid0.coords t 0).val * 12800 + p.val) :
    iblk m c 0 t (ix2 p d) = V m c main_v0 (ix2 r d) := by
  blk_ext [iblk, (index_rows t).1]

/-- The projection is one block. -/
theorem projection_read (c : Dev nD) (t : Fin cfg0.N) (d : Fin 2) (j : Fin 128) :
    iblk m c 1 t (ix2 d j) = V m c main_arg1 (ix2 d j) := by
  blk_ext [iblk, (index_rows t).2.2.2.1]

/-- The table is one block. -/
theorem table_read (c : Dev nD) (t : Fin cfg0.N) (x : Fin 19) (e : Fin 256) :
    iblk m c 2 t (ix2 x e) = V m c main_v3 (ix2 x e) := by
  blk_ext [iblk, (index_rows t).2.2.2.2]

theorem final_out (c : Dev nD) : (dats m 0 c).arrAt 3 cfg0.N
    = outRows (V m c main_v0) (V m c main_arg1) (V m c main_v3) := by
  refine (dats m 0 c).arrAt_eq_of_covers 3 _ (by decide +kernel) fun t hf y => ?_
  blk_simp
  rw [after0_3]
  unfold outsAt0
  dsimp only
  rw [KernelBlock.block_out]
  obtain ⟨p, e, rfl⟩ : ∃ (p : Fin 12800) (e : Fin 256), y = ix2 p e := ⟨y 0, y 1, eq_ix2 y⟩
  obtain ⟨r, hr⟩ : ∃ r : Fin 204800, r.val = (grid0.coords t 0).val * 12800 + p.val :=
    ⟨⟨(grid0.coords t 0).val * 12800 + p.val, by have := (grid0.coords t 0).isLt; change _ < 16 at this; omega⟩, rfl⟩
  have place : ((cfg0.win 3).blk t).view.emb (ix2 p e) = ix2 r e := by
    blk_ext [(index_rows t).2.1]
  rw [place]
  unfold KernelBlock.out outRows
  show encoded (wave _ _ (fun j => turns (fun d => iblk m c 0 t (ix2 p ⟨d.val, _⟩)) (fun d => iblk m c 1 t (ix2 d j))) e)
    (iblk m c 0 t (ix2 p 2)) (fun x => iblk m c 2 t (ix2 x e)) = _
  simp only [points_read m c t p _ r hr, projection_read, table_read]
  rfl

theorem final_mask (c : Dev nD) : (dats m 0 c).arrAt 4 cfg0.N = maskRows (V m c main_v0) := by
  refine (dats m 0 c).arrAt_eq_of_covers 4 _ (by decide +kernel) fun t hf y => ?_
  blk_simp
  rw [after0_4]
  unfold outsAt0
  dsimp only
  rw [KernelBlock.block_mask]
  obtain ⟨p, e, rfl⟩ : ∃ (p : Fin 12800) (e : Fin 1), y = ix2 p e := ⟨y 0, y 1, eq_ix2 y⟩
  obtain ⟨r, hr⟩ : ∃ r : Fin 204800, r.val = (grid0.coords t 0).val * 12800 + p.val :=
    ⟨⟨(grid0.coords t 0).val * 12800 + p.val, by have := (grid0.coords t 0).isLt; change _ < 16 at this; omega⟩, rfl⟩
  have place : ((cfg0.win 4).blk t).view.emb (ix2 p e) = ix2 r e := by
    blk_ext [(index_rows t).2.2.1]
  rw [place]
  exact congrArg masked (points_read m c t p 2 r hr)

end Cert.KernelArrays

end
-- ==== Proof.KernelRun.lean ====
/- The kernel's two results as functions of the arguments, at every final state of its run. -/
module

public import proofs.«01_k».proof.Proof.KernelArrays
public import Idealize.ShloMosaic.Lib.Claim

@[expose] public section

set_option maxRecDepth 16384

noncomputable section

namespace Cert.KernelRun

open Idealize.ShloMosaic Idealize.ShloMosaic.TcCoe Idealize.SL.Sem
open Cert.KernelIdeal Cert.KernelIdeal.Gen Cert.Element

variable (m : (ℓ : Loc nD τ sig) → Buf (Elt Ideal) ℓ) (ρ : Dev nD → PrngReg)

/-- The table the kernel reads: the two extra rows and the joint embeddings. -/
theorem entry_table (c : Dev nD) : V m c main_v3
    = concatenate S19x256 0 [⟨S1x256, broadcastInDim S1x256 ![1] bcast_S256_S1x256_1 (m ((c : Thread nD τ).loc main_arg4))⟩,
        ⟨S1x256, broadcastInDim S1x256 ![1] bcast_S256_S1x256_1 (m ((c : Thread nD τ).loc main_arg3))⟩,
        ⟨S17x256, m ((c : Thread nD τ).loc main_arg2)⟩] concatenates_S1x256_S1x256_S17x256_S19x256_d0 := by
  entry_read
  rw [List.flatten_cons, List.flatten_nil, List.append_nil]
  after_results
  dsimp only [Matrix.cons_val]
  repeat after_results_step

/-- The keypoints as the kernel reads them: one row a point. -/
theorem entry_points (c : Dev nD) : V m c main_v0
    = shapeCast S204800x3 (m ((c : Thread nD τ).loc main_arg0)) shapeCasts_S1024x200x3_S204800x3 := by
  entry_read
  rw [List.flatten_cons, List.flatten_nil, List.append_nil]
  after_results
  rfl

theorem tail_out (c : Dev nD) : Pipeline.afterTail₀ cfgs (dats m) 0 (V0 m) [hostOps1] c main_v5
    = shapeCast S1024x200x256 ((dats m 0 c).arrAt 3 cfg0.N) shapeCasts_S204800x256_S1024x200x256 := by
  unfold Pipeline.afterTail₀
  rw [List.flatten_cons, List.flatten_nil, List.append_nil]
  after_results
  exact congrArg (fun v => shapeCast S1024x200x256 v shapeCasts_S204800x256_S1024x200x256)
    (Pipeline.withArrays_arr spec0 (by decide) c (V0 m c) (fun w => (dats m 0 c).arrAt w cfg0.N) 3)

theorem tail_mask (c : Dev nD) : Pipeline.afterTail₀ cfgs (dats m) 0 (V0 m) [hostOps1] c main_v6
    = shapeCast S1024x200 ((dats m 0 c).arrAt 4 cfg0.N) shapeCasts_S204800x1_S1024x200 := by
  unfold Pipeline.afterTail₀
  rw [List.flatten_cons, List.flatten_nil, List.append_nil]
  after_results
  exact congrArg (fun v => shapeCast S1024x200 v shapeCasts_S204800x1_S1024x200)
    (Pipeline.withArrays_arr spec0 (by decide) c (V0 m c) (fun w => (dats m 0 c).arrAt w cfg0.N) 4)

/-- The row of the kernel's table at position `x`: the two extra embeddings, then the joints'. -/
def tableRow (joints : Vec Ideal S17x256 .f32) (outside missing : Vec Ideal S256 .f32) (e : Fin 256) (x : Fin 19) : EReal :=
  if _ : x.val < 1 then missing (ix1 e)
  else if _ : x.val - 1 < 1 then outside (ix1 e) else joints (ix2 ⟨x.val - 1 - 1, by omega⟩ e)

/-- The first result at a point and a column. -/
def result0 (a0 : Vec Ideal S1024x200x3 .f32) (a1 : Vec Ideal S2x128 .f32) (a2 : Vec Ideal S17x256 .f32)
    (a3 a4 : Vec Ideal S256 .f32) (b : Fin 1024) (n : Fin 200) (e : Fin 256) : EReal :=
  encoded (wave (fun t => sineFit (rest t)) (fun t => cosineFit (rest t))
      (fun j => turns (fun d => a0 (ix3 b n ⟨d.val, by omega⟩)) (fun d => a1 (ix2 d j))) e)
    (a0 (ix3 b n 2)) (tableRow a2 a3 a4 e)

/-- The second result at a point. -/
def result1 (a0 : Vec Ideal S1024x200x3 .f32) (b : Fin 1024) (n : Fin 200) : EReal := masked (a0 (ix3 b n 2))

theorem out_apply (a0 : Vec Ideal S1024x200x3 .f32) (a1 : Vec Ideal S2x128 .f32) (a2 : Vec Ideal S17x256 .f32)
    (a3 a4 : Vec Ideal S256 .f32) (b : Fin 1024) (n : Fin 200) (e : Fin 256) :
    shapeCast S1024x200x256 (KernelArrays.outRows (shapeCast S204800x3 a0 shapeCasts_S1024x200x3_S204800x3) a1
      (concatenate S19x256 0 [⟨S1x256, broadcastInDim S1x256 ![1] bcast_S256_S1x256_1 a4⟩,
        ⟨S1x256, broadcastInDim S1x256 ![1] bcast_S256_S1x256_1 a3⟩, ⟨S17x256, a2⟩]
        concatenates_S1x256_S1x256_S17x256_S19x256_d0)) shapeCasts_S204800x256_S1024x200x256 (ix3 b n e)
      = result0 a0 a1 a2 a3 a4 b n e := by
  pointwise [KernelArrays.outRows]
  rfl

theorem mask_apply (a0 : Vec Ideal S1024x200x3 .f32) (b : Fin 1024) (n : Fin 200) :
    shapeCast S1024x200 (KernelArrays.maskRows (shapeCast S204800x3 a0 shapeCasts_S1024x200x3_S204800x3))
      shapeCasts_S204800x1_S1024x200 (ix2 b n) = result1 a0 b n := by
  pointwise [KernelArrays.maskRows]
  rfl

/-- The run: both results are functions of the arguments, and the arguments are unchanged. -/
theorem run : θ_run defs (onTc (τ := τ) (main (F := Ideal))) ⟨m, fun _ => 0, ρ⟩ fun r => ∀ c : Dev nD,
      (r.2.mem ((c : Thread nD τ).loc main_v5) = (fun i : S1024x200x256.Idx =>
          result0 (m ((c : Thread nD τ).loc main_arg0)) (m ((c : Thread nD τ).loc main_arg1))
            (m ((c : Thread nD τ).loc main_arg2)) (m ((c : Thread nD τ).loc main_arg3))
            (m ((c : Thread nD τ).loc main_arg4)) (i 0) (i 1) (i 2)))
      ∧ (r.2.mem ((c : Thread nD τ).loc main_v6) = (fun i : S1024x200.Idx =>
          result1 (m ((c : Thread nD τ).loc main_arg0)) (i 0) (i 1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  run_from Gen.run_main m ρ & Gen.unchanged m ρ
  · rw [tail_out, KernelArrays.final_out, entry_points, entry_table, V_main_arg1]
    funext i
    obtain ⟨b, n, e, rfl⟩ : ∃ (b : Fin 1024) (n : Fin 200) (e : Fin 256), i = ix3 b n e :=
      ⟨i 0, i 1, i 2, eq_ix3 i⟩
    exact out_apply _ _ _ _ _ b n e
  · rw [tail_mask, KernelArrays.final_mask, entry_points]
    funext i
    obtain ⟨b, n, rfl⟩ : ∃ (b : Fin 1024) (n : Fin 200), i = ix2 b n := ⟨i 0, i 1, eq_ix2 i⟩
    exact mask_apply _ b n

end Cert.KernelRun

end
-- ==== Proof.Row.lean ====
/- One row: the kernel picks the embedding of the row's label by a product with a one-hot row and its wave by a
   product with zero or one; the reference picks both by comparing the label. They agree on every label that is an
   integer not below -2. -/
module

public import proofs.«01_k».proof.Proof.Element

@[expose] public section

set_option maxRecDepth 16384

noncomputable section

namespace Cert.Row

open Idealize.ShloMosaic Cert.Element

/-- The reference's element of the first result: the wave `w`, or an extra embedding where the label is -1 or -2, plus
    the joint's embedding where the label names a joint. -/
def spelled (w l : EReal) (joints : Fin 17 → EReal) (outside missing : EReal) : EReal :=
  (if l = ((-1 : ℝ) : EReal) then outside else if l = ((-2 : ℝ) : EReal) then missing else w)
    + ∑ n : Fin 17, if l = ((n.val : ℝ) : EReal) then joints n else 0

/-- The reference's element of the second result. -/
def unmasked (l : EReal) : EReal := if ((-2 : ℝ) : EReal) < l then 1 else 0

theorem bit_ofBool (p : Bool) : bit (BitVec.ofBool p) = if p then 1 else 0 := by
  cases p
  · show ((((0#32 : BitVec 32).toInt : ℝ)) : EReal) = 0
    norm_num
  · show ((((1#32 : BitVec 32).toInt : ℝ)) : EReal) = 1
    norm_num

/-- A comparison as the reference makes a number of it. -/
theorem unsigned_bit (p : Prop) [Decidable p] :
    FloatOps.uitofp (F := Ideal) .f32 (BitVec.ofBool (decide p)) = if p then (1 : EReal) else 0 := by
  by_cases h : p
  · rw [if_pos h, decide_eq_true h]
    show ((((1#1 : BitVec 1).toNat : ℝ)) : EReal) = 1
    norm_num
  · rw [if_neg h, decide_eq_false h]
    show ((((0#1 : BitVec 1).toNat : ℝ)) : EReal) = 0
    norm_num

/-- A label that is an integer not below -2: the word the kernel reads is an integer `z` that names the same row. -/
structure Reads (l : EReal) (z : ℤ) : Prop where
  word_eq : (word l).toInt = z
  low : -2 ≤ z
  eq_iff : ∀ k : ℤ, k ≤ 16 → (l = (((k : ℤ) : ℝ) : EReal) ↔ z = k)

/-- The label is an integer not below -2 (an infinite one is allowed). -/
def Integral (l : EReal) : Prop := l = Ideal.liftRound Ideal.roundHalfEven l ∧ ((-2 : ℝ) : EReal) ≤ l

theorem toInt_word (z : ℤ) (h0 : -2 ^ 31 ≤ z) (h1 : z < 2 ^ 31) : (BitVec.ofInt 32 z).toInt = z := by
  rw [BitVec.toInt_ofInt, Int.bmod_eq_of_le] <;> omega

theorem reads (l : EReal) (h : Integral l) : ∃ z, Reads l z := by
  obtain ⟨hr, hl⟩ := h
  induction l with
  | bot => exact absurd hl (by simp)
  | top =>
    refine ⟨2 ^ 31 - 1, ⟨?_, by norm_num, fun k hk => ?_⟩⟩
    · show (BitVec.ofInt 32 _).toInt = _
      rw [Ideal.toIntClamped_top]
      rfl
    · refine iff_of_false (fun e => absurd e.symm (EReal.coe_ne_top _)) (by omega)
  | coe r =>
    obtain ⟨n, rfl⟩ : ∃ n : ℤ, r = n := ⟨Ideal.roundHalfEven r, EReal.coe_injective hr⟩
    have hn : (-2 : ℤ) ≤ n := by
      have : (-2 : ℝ) ≤ n := EReal.coe_le_coe_iff.mp hl
      exact_mod_cast this
    refine ⟨min n (2 ^ 31 - 1), ⟨?_, by omega, fun k hk => ?_⟩⟩
    · have e : word (((n : ℤ) : ℝ) : EReal) = BitVec.ofInt 32 (min n (2 ^ 31 - 1)) := by
        show BitVec.ofInt 32 (Ideal.toIntClamped _ _ _) = _
        rw [Ideal.toIntClamped_coe]
        congr 1
        rw [Int.floor_intCast, Int.ceil_intCast, ite_self]
        norm_num
        omega
      rw [e, toInt_word _ (by omega) (by omega)]
    · rw [EReal.coe_eq_coe_iff, Int.cast_inj]
      omega

/-- The position `x` of the table as the word the kernel compares the label with. -/
theorem toInt_position : ∀ x : Fin 19, (IntOp.subi (BitVec.ofNat 32 x.val) 2#32).toInt = (x.val : ℤ) - 2 := by
  decide +kernel

theorem hit_eq {l : EReal} {z : ℤ} (h : Reads l z) (x : Fin 19) :
    bit (IntOp.cmpi .eq (word l) (IntOp.subi (BitVec.ofNat 32 x.val) 2#32)) = if z = (x.val : ℤ) - 2 then 1 else 0 := by
  unfold IntOp.cmpi
  rw [bit_ofBool]
  refine if_congr ?_ rfl rfl
  show (word l == IntOp.subi (BitVec.ofNat 32 x.val) 2#32) = true ↔ _
  rw [beq_iff_eq, ← BitVec.toInt_inj, h.word_eq, toInt_position]

theorem sign_eq {l : EReal} {z : ℤ} (h : Reads l z) :
    bit (IntOp.cmpi .sge (word l) 0#32) = if 0 ≤ z then 1 else 0 := by
  unfold IntOp.cmpi
  rw [bit_ofBool]
  refine if_congr ?_ rfl rfl
  show (0#32 : BitVec 32).sle (word l) = true ↔ _
  rw [BitVec.sle_iff_toInt_le, h.word_eq]
  rfl

theorem masked_eq {l : EReal} (hl : Integral l) : masked l = unmasked l := by
  obtain ⟨z, h⟩ := reads l hl
  unfold masked unmasked IntOp.cmpi
  rw [bit_ofBool]
  refine if_congr ?_ rfl rfl
  show (4294967294#32 : BitVec 32).slt (word l) = true ↔ _
  rw [BitVec.slt_iff_toInt_lt, h.word_eq]
  have e := h.eq_iff (-2) (by norm_num)
  have e' : (((-2 : ℤ) : ℝ) : EReal) = ((-2 : ℝ) : EReal) := by norm_num
  rw [e'] at e
  have hw : (4294967294#32 : BitVec 32).toInt = -2 := by decide
  have := h.low
  rw [hw]
  constructor
  · intro hz
    exact lt_of_le_of_ne hl.2 fun c => absurd (e.mp c.symm) (by omega)
  · intro hz
    have : z ≠ -2 := fun c => hz.ne (e.mpr c).symm
    omega

theorem encoded_eq (w : EReal) {l : EReal} (hl : Integral l) (joints : Fin 17 → EReal) (outside missing : EReal)
    (table : Fin 19 → EReal) (t0 : table 0 = missing) (t1 : table 1 = outside)
    (t2 : ∀ n : Fin 17, table n.succ.succ = joints n) :
    encoded w l table = spelled w l joints outside missing := by
  obtain ⟨z, h⟩ := reads l hl
  unfold encoded spelled
  rw [sign_eq h]
  simp only [hit_eq h]
  rw [Fin.sum_univ_succ, Fin.sum_univ_succ]
  have s : ∀ n : Fin 17, (if z = ((n.succ.succ : Fin 19).val : ℤ) - 2 then (1 : EReal) else 0) * table n.succ.succ
      = if l = ((n.val : ℝ) : EReal) then joints n else 0 := fun n => by
    have e := h.eq_iff n.val (by omega)
    rw [Int.cast_natCast] at e
    rw [t2, ite_mul, one_mul, zero_mul]
    refine if_congr ?_ rfl rfl
    rw [e, Fin.val_succ, Fin.val_succ]
    omega
  simp only [s]
  have e1 := h.eq_iff (-1) (by norm_num)
  have e2 := h.eq_iff (-2) (by norm_num)
  rw [show (((-1 : ℤ) : ℝ) : EReal) = ((-1 : ℝ) : EReal) by norm_num] at e1
  rw [show (((-2 : ℤ) : ℝ) : EReal) = ((-2 : ℝ) : EReal) by norm_num] at e2
  simp only [e1, e2, t0, show table (Fin.succ 0) = outside from t1]
  have hz := h.low
  have c0 : (((0 : Fin 19).val : ℤ) - 2) = -2 := rfl
  have c1 : (((Fin.succ 0 : Fin 19).val : ℤ) - 2) = -1 := rfl
  rw [c0, c1, ← add_assoc, ← add_assoc]
  congr 1
  by_cases a : z = -1
  · subst a; simp
  · by_cases b : z = -2
    · subst b; simp
    · rw [if_pos (by omega), if_neg a, if_neg b, if_neg b, if_neg a]; simp

end Cert.Row

end
-- ==== Proof.Chain.lean ====
/- The label constants of the reference, and its sum over the joints as it is written: one term a joint. -/
module

public import proofs.«01_k».proof.Proof.Row

@[expose] public section

noncomputable section

namespace Cert.Chain

open Idealize.ShloMosaic Cert.Element Cert.Row

theorem label_neg_one : Ideal.ofBits .f32 0xBF800000#32 = ((-1 : ℝ) : EReal) := by
  simp [Ideal.ofBits, Ideal.ieee, -EReal.coe_mul]; try norm_num
theorem label_neg_two : Ideal.ofBits .f32 0xC0000000#32 = ((-2 : ℝ) : EReal) := by
  simp [Ideal.ofBits, Ideal.ieee, -EReal.coe_mul]; try norm_num
theorem label_0 : (0 : EReal) = (((0 : ℕ) : ℝ) : EReal) := by norm_num
theorem label_1 : (1 : EReal) = (((1 : ℕ) : ℝ) : EReal) := by norm_num
theorem label_2 : Ideal.ofBits .f32 0x40000000#32 = (((2 : ℕ) : ℝ) : EReal) := by
  simp [Ideal.ofBits, Ideal.ieee, -EReal.coe_mul]; try norm_num
theorem label_3 : Ideal.ofBits .f32 0x40400000#32 = (((3 : ℕ) : ℝ) : EReal) := by
  simp [Ideal.ofBits, Ideal.ieee, -EReal.coe_mul]; try norm_num
theorem label_4 : Ideal.ofBits .f32 0x40800000#32 = (((4 : ℕ) : ℝ) : EReal) := by
  simp [Ideal.ofBits, Ideal.ieee, -EReal.coe_mul]; try norm_num
theorem label_5 : Ideal.ofBits .f32 0x40A00000#32 = (((5 : ℕ) : ℝ) : EReal) := by
  simp [Ideal.ofBits, Ideal.ieee, -EReal.coe_mul]; try norm_num
theorem label_6 : Ideal.ofBits .f32 0x40C00000#32 = (((6 : ℕ) : ℝ) : EReal) := by
  simp [Ideal.ofBits, Ideal.ieee, -EReal.coe_mul]; try norm_num
theorem label_7 : Ideal.ofBits .f32 0x40E00000#32 = (((7 : ℕ) : ℝ) : EReal) := by
  simp [Ideal.ofBits, Ideal.ieee, -EReal.coe_mul]; try norm_num
theorem label_8 : Ideal.ofBits .f32 0x41000000#32 = (((8 : ℕ) : ℝ) : EReal) := by
  simp [Ideal.ofBits, Ideal.ieee, -EReal.coe_mul]; try norm_num
theorem label_9 : Ideal.ofBits .f32 0x41100000#32 = (((9 : ℕ) : ℝ) : EReal) := by
  simp [Ideal.ofBits, Ideal.ieee, -EReal.coe_mul]; try norm_num
theorem label_10 : Ideal.ofBits .f32 0x41200000#32 = (((10 : ℕ) : ℝ) : EReal) := by
  simp [Ideal.ofBits, Ideal.ieee, -EReal.coe_mul]; try norm_num
theorem label_11 : Ideal.ofBits .f32 0x41300000#32 = (((11 : ℕ) : ℝ) : EReal) := by
  simp [Ideal.ofBits, Ideal.ieee, -EReal.coe_mul]; try norm_num
theorem label_12 : Ideal.ofBits .f32 0x41400000#32 = (((12 : ℕ) : ℝ) : EReal) := by
  simp [Ideal.ofBits, Ideal.ieee, -EReal.coe_mul]; try norm_num
theorem label_13 : Ideal.ofBits .f32 0x41500000#32 = (((13 : ℕ) : ℝ) : EReal) := by
  simp [Ideal.ofBits, Ideal.ieee, -EReal.coe_mul]; try norm_num
theorem label_14 : Ideal.ofBits .f32 0x41600000#32 = (((14 : ℕ) : ℝ) : EReal) := by
  simp [Ideal.ofBits, Ideal.ieee, -EReal.coe_mul]; try norm_num
theorem label_15 : Ideal.ofBits .f32 0x41700000#32 = (((15 : ℕ) : ℝ) : EReal) := by
  simp [Ideal.ofBits, Ideal.ieee, -EReal.coe_mul]; try norm_num
theorem label_16 : Ideal.ofBits .f32 0x41800000#32 = (((16 : ℕ) : ℝ) : EReal) := by
  simp [Ideal.ofBits, Ideal.ieee, -EReal.coe_mul]; try norm_num

/-- The reference's sum, a term a joint (`o` is the zero of the rows of other labels). -/
theorem spelled_chain (w l : EReal) (joints : Fin 17 → EReal) (outside missing : EReal) (o : EReal) (ho : o = 0) :
    ((((((((((((((((((if l = Ideal.ofBits .f32 0xBF800000#32 then outside
      else if l = Ideal.ofBits .f32 0xC0000000#32 then missing else w)
      + if l = 0 then joints 0 else o)
      + if l = 1 then joints 1 else o)
      + if l = Ideal.ofBits .f32 0x40000000#32 then joints 2 else o)
      + if l = Ideal.ofBits .f32 0x40400000#32 then joints 3 else o)
      + if l = Ideal.ofBits .f32 0x40800000#32 then joints 4 else o)
      + if l = Ideal.ofBits .f32 0x40A00000#32 then joints 5 else o)
      + if l = Ideal.ofBits .f32 0x40C00000#32 then joints 6 else o)
      + if l = Ideal.ofBits .f32 0x40E00000#32 then joints 7 else o)
      + if l = Ideal.ofBits .f32 0x41000000#32 then joints 8 else o)
      + if l = Ideal.ofBits .f32 0x41100000#32 then joints 9 else o)
      + if l = Ideal.ofBits .f32 0x41200000#32 then joints 10 else o)
      + if l = Ideal.ofBits .f32 0x41300000#32 then joints 11 else o)
      + if l = Ideal.ofBits .f32 0x41400000#32 then joints 12 else o)
      + if l = Ideal.ofBits .f32 0x41500000#32 then joints 13 else o)
      + if l = Ideal.ofBits .f32 0x41600000#32 then joints 14 else o)
      + if l = Ideal.ofBits .f32 0x41700000#32 then joints 15 else o)
      + if l = Ideal.ofBits .f32 0x41800000#32 then joints 16 else o)
      = spelled w l joints outside missing := by
  subst ho
  unfold spelled
  have e0 : l = 0 ↔ l = (((0 : ℕ) : ℝ) : EReal) := by rw [← label_0]
  have e1 : l = 1 ↔ l = (((1 : ℕ) : ℝ) : EReal) := by rw [← label_1]
  simp only [label_neg_one, label_neg_two, e0, e1, label_2, label_3, label_4, label_5, label_6, label_7, label_8, label_9, label_10, label_11, label_12, label_13, label_14, label_15, label_16,
    Fin.sum_univ_castSucc, Fin.sum_univ_zero, zero_add, ← add_assoc]
  rfl

end Cert.Chain

end
-- ==== Proof.ReferenceElement.lean ====
/- The reference's two results at a point, read off its printed operations. -/
module

public import proofs.«01_k».proof.Proof.Chain
public import proofs.«01_k».proof.Proof.Gen.ReferenceIdeal.Read
public import Idealize.ShloMosaic.Lib.Pipeline.ValueKit

@[expose] public section

set_option maxRecDepth 16384

noncomputable section

namespace Cert.ReferenceElement

open Idealize.ShloMosaic Idealize.ShloMosaic.TcCoe Idealize.SL.Sem
open Cert.ReferenceIdeal Cert.ReferenceIdeal.Read Cert.Element Cert.Row

/-- 2π as the reference computes it. -/
def twoPi : EReal := Ideal.ofBits .f32 0x41000000#32 * Ideal.atan 1

/-- The sine of `t` turns. -/
def sine (t : EReal) : EReal := Ideal.sin (twoPi * t)

/-- The cosine of `t` turns. -/
def cosine (t : EReal) : EReal := Ideal.cos (twoPi * t)

/-- The first result at a point and a column. -/
def result0 (a0 : Vec Ideal S1024x200x3 .f32) (a1 : Vec Ideal S2x128 .f32) (a2 : Vec Ideal S17x256 .f32)
    (a3 a4 : Vec Ideal S256 .f32) (b : Fin 1024) (n : Fin 200) (e : Fin 256) : EReal :=
  spelled (wave sine cosine
      (fun j => turns (fun d => a0 (ix3 b n ⟨d.val, by omega⟩)) (fun d => a1 (ix2 d j))) e)
    (a0 (ix3 b n 2)) (fun k => a2 (ix2 k e)) (a3 (ix1 e)) (a4 (ix1 e))

theorem no_joint : id (constant (F := Ideal) S_ .f32 0#32) ix0 = 0 := Ideal.ofBits_zero_f32

theorem out_apply (a0 : Vec Ideal S1024x200x3 .f32) (a1 : Vec Ideal S2x128 .f32) (a2 : Vec Ideal S17x256 .f32)
    (a3 a4 : Vec Ideal S256 .f32) (b : Fin 1024) (n : Fin 200) (e : Fin 256) :
    val_main_v162 (F := Ideal) a0 a1 a2 a3 a4 (ix3 b n e) = result0 a0 a1 a2 a3 a4 b n e := by
  pointwise [
    val_main_cst, val_main_v0, val_main_cst_0, val_main_v1, val_main_v2, val_main_v3, val_main_v4, val_main_cst_1,
    val_main_v5, val_main_v6, val_main_cst_2, val_main_v7, val_main_v8, val_main_v9, val_main_v10, val_main_v11,
    val_main_v12, val_main_v13, val_main_v14, val_main_v15, val_main_v16, val_main_cst_3, val_main_v17, val_main_v18,
    val_main_v19, val_main_v20, val_main_call0_v0, val_main_call0_v1, val_main_v21, val_main_cst_4, val_main_v22,
    val_main_v23, val_main_v24, val_main_v25, val_main_call1_v0, val_main_call1_v1, val_main_v26, val_main_cst_5,
    val_main_v27, val_main_v28, val_main_v29, val_main_v30, val_main_v31, val_main_v32, val_main_cst_6,
    val_main_call2_v0, val_main_call2_v1, val_main_call2_v2, val_main_call2_v3, val_main_v33, val_main_v34,
    val_main_cst_7, val_main_v35, val_main_v36, val_main_v37, val_main_v38, val_main_v39, val_main_v40,
    val_main_cst_8, val_main_call3_v0, val_main_call3_v1, val_main_call3_v2, val_main_call3_v3, val_main_v41,
    val_main_v42, val_main_cst_9, val_main_v43, val_main_v44, val_main_v45, val_main_v46, val_main_v47, val_main_v48,
    val_main_cst_10, val_main_call4_v0, val_main_call4_v1, val_main_call4_v2, val_main_call4_v3, val_main_v49,
    val_main_v50, val_main_cst_11, val_main_v51, val_main_v52, val_main_v53, val_main_v54, val_main_v55,
    val_main_v56, val_main_cst_12, val_main_call5_v0, val_main_call5_v1, val_main_call5_v2, val_main_call5_v3,
    val_main_v57, val_main_v58, val_main_cst_13, val_main_v59, val_main_v60, val_main_v61, val_main_v62,
    val_main_v63, val_main_v64, val_main_cst_14, val_main_call6_v0, val_main_call6_v1, val_main_call6_v2,
    val_main_call6_v3, val_main_v65, val_main_v66, val_main_cst_15, val_main_v67, val_main_v68, val_main_v69,
    val_main_v70, val_main_v71, val_main_v72, val_main_cst_16, val_main_call7_v0, val_main_call7_v1,
    val_main_call7_v2, val_main_call7_v3, val_main_v73, val_main_v74, val_main_cst_17, val_main_v75, val_main_v76,
    val_main_v77, val_main_v78, val_main_v79, val_main_v80, val_main_cst_18, val_main_call8_v0, val_main_call8_v1,
    val_main_call8_v2, val_main_call8_v3, val_main_v81, val_main_v82, val_main_cst_19, val_main_v83, val_main_v84,
    val_main_v85, val_main_v86, val_main_v87, val_main_v88, val_main_cst_20, val_main_call9_v0, val_main_call9_v1,
    val_main_call9_v2, val_main_call9_v3, val_main_v89, val_main_v90, val_main_cst_21, val_main_v91, val_main_v92,
    val_main_v93, val_main_v94, val_main_v95, val_main_v96, val_main_cst_22, val_main_call10_v0, val_main_call10_v1,
    val_main_call10_v2, val_main_call10_v3, val_main_v97, val_main_v98, val_main_cst_23, val_main_v99, val_main_v100,
    val_main_v101, val_main_v102, val_main_v103, val_main_v104, val_main_cst_24, val_main_call11_v0,
    val_main_call11_v1, val_main_call11_v2, val_main_call11_v3, val_main_v105, val_main_v106, val_main_cst_25,
    val_main_v107, val_main_v108, val_main_v109, val_main_v110, val_main_v111, val_main_v112, val_main_cst_26,
    val_main_call12_v0, val_main_call12_v1, val_main_call12_v2, val_main_call12_v3, val_main_v113, val_main_v114,
    val_main_cst_27, val_main_v115, val_main_v116, val_main_v117, val_main_v118, val_main_v119, val_main_v120,
    val_main_cst_28, val_main_call13_v0, val_main_call13_v1, val_main_call13_v2, val_main_call13_v3, val_main_v121,
    val_main_v122, val_main_cst_29, val_main_v123, val_main_v124, val_main_v125, val_main_v126, val_main_v127,
    val_main_v128, val_main_cst_30, val_main_call14_v0, val_main_call14_v1, val_main_call14_v2, val_main_call14_v3,
    val_main_v129, val_main_v130, val_main_cst_31, val_main_v131, val_main_v132, val_main_v133, val_main_v134,
    val_main_v135, val_main_v136, val_main_cst_32, val_main_call15_v0, val_main_call15_v1, val_main_call15_v2,
    val_main_call15_v3, val_main_v137, val_main_v138, val_main_cst_33, val_main_v139, val_main_v140, val_main_v141,
    val_main_v142, val_main_v143, val_main_v144, val_main_cst_34, val_main_call16_v0, val_main_call16_v1,
    val_main_call16_v2, val_main_call16_v3, val_main_v145, val_main_v146, val_main_cst_35, val_main_v147,
    val_main_v148, val_main_v149, val_main_v150, val_main_v151, val_main_v152, val_main_cst_36, val_main_call17_v0,
    val_main_call17_v1, val_main_call17_v2, val_main_call17_v3, val_main_v153, val_main_v154, val_main_cst_37,
    val_main_v155, val_main_v156, val_main_v157, val_main_v158, val_main_v159, val_main_v160, val_main_cst_38,
    val_main_call18_v0, val_main_call18_v1, val_main_call18_v2, val_main_call18_v3, val_main_v161, val_main_v162,
    val_main_cst_39, val_main_v163, val_main_v164, val_main_v165]
  exact Chain.spelled_chain _ _ (fun k => a2 (ix2 k e)) _ _ _ no_joint

theorem mask_apply (a0 : Vec Ideal S1024x200x3 .f32) (b : Fin 1024) (n : Fin 200) :
    val_main_v165 (F := Ideal) a0 (ix2 b n) = unmasked (a0 (ix3 b n 2)) := by
  pointwise [
    val_main_cst, val_main_v0, val_main_cst_0, val_main_v1, val_main_v2, val_main_v3, val_main_v4, val_main_cst_1,
    val_main_v5, val_main_v6, val_main_cst_2, val_main_v7, val_main_v8, val_main_v9, val_main_v10, val_main_v11,
    val_main_v12, val_main_v13, val_main_v14, val_main_v15, val_main_v16, val_main_cst_3, val_main_v17, val_main_v18,
    val_main_v19, val_main_v20, val_main_call0_v0, val_main_call0_v1, val_main_v21, val_main_cst_4, val_main_v22,
    val_main_v23, val_main_v24, val_main_v25, val_main_call1_v0, val_main_call1_v1, val_main_v26, val_main_cst_5,
    val_main_v27, val_main_v28, val_main_v29, val_main_v30, val_main_v31, val_main_v32, val_main_cst_6,
    val_main_call2_v0, val_main_call2_v1, val_main_call2_v2, val_main_call2_v3, val_main_v33, val_main_v34,
    val_main_cst_7, val_main_v35, val_main_v36, val_main_v37, val_main_v38, val_main_v39, val_main_v40,
    val_main_cst_8, val_main_call3_v0, val_main_call3_v1, val_main_call3_v2, val_main_call3_v3, val_main_v41,
    val_main_v42, val_main_cst_9, val_main_v43, val_main_v44, val_main_v45, val_main_v46, val_main_v47, val_main_v48,
    val_main_cst_10, val_main_call4_v0, val_main_call4_v1, val_main_call4_v2, val_main_call4_v3, val_main_v49,
    val_main_v50, val_main_cst_11, val_main_v51, val_main_v52, val_main_v53, val_main_v54, val_main_v55,
    val_main_v56, val_main_cst_12, val_main_call5_v0, val_main_call5_v1, val_main_call5_v2, val_main_call5_v3,
    val_main_v57, val_main_v58, val_main_cst_13, val_main_v59, val_main_v60, val_main_v61, val_main_v62,
    val_main_v63, val_main_v64, val_main_cst_14, val_main_call6_v0, val_main_call6_v1, val_main_call6_v2,
    val_main_call6_v3, val_main_v65, val_main_v66, val_main_cst_15, val_main_v67, val_main_v68, val_main_v69,
    val_main_v70, val_main_v71, val_main_v72, val_main_cst_16, val_main_call7_v0, val_main_call7_v1,
    val_main_call7_v2, val_main_call7_v3, val_main_v73, val_main_v74, val_main_cst_17, val_main_v75, val_main_v76,
    val_main_v77, val_main_v78, val_main_v79, val_main_v80, val_main_cst_18, val_main_call8_v0, val_main_call8_v1,
    val_main_call8_v2, val_main_call8_v3, val_main_v81, val_main_v82, val_main_cst_19, val_main_v83, val_main_v84,
    val_main_v85, val_main_v86, val_main_v87, val_main_v88, val_main_cst_20, val_main_call9_v0, val_main_call9_v1,
    val_main_call9_v2, val_main_call9_v3, val_main_v89, val_main_v90, val_main_cst_21, val_main_v91, val_main_v92,
    val_main_v93, val_main_v94, val_main_v95, val_main_v96, val_main_cst_22, val_main_call10_v0, val_main_call10_v1,
    val_main_call10_v2, val_main_call10_v3, val_main_v97, val_main_v98, val_main_cst_23, val_main_v99, val_main_v100,
    val_main_v101, val_main_v102, val_main_v103, val_main_v104, val_main_cst_24, val_main_call11_v0,
    val_main_call11_v1, val_main_call11_v2, val_main_call11_v3, val_main_v105, val_main_v106, val_main_cst_25,
    val_main_v107, val_main_v108, val_main_v109, val_main_v110, val_main_v111, val_main_v112, val_main_cst_26,
    val_main_call12_v0, val_main_call12_v1, val_main_call12_v2, val_main_call12_v3, val_main_v113, val_main_v114,
    val_main_cst_27, val_main_v115, val_main_v116, val_main_v117, val_main_v118, val_main_v119, val_main_v120,
    val_main_cst_28, val_main_call13_v0, val_main_call13_v1, val_main_call13_v2, val_main_call13_v3, val_main_v121,
    val_main_v122, val_main_cst_29, val_main_v123, val_main_v124, val_main_v125, val_main_v126, val_main_v127,
    val_main_v128, val_main_cst_30, val_main_call14_v0, val_main_call14_v1, val_main_call14_v2, val_main_call14_v3,
    val_main_v129, val_main_v130, val_main_cst_31, val_main_v131, val_main_v132, val_main_v133, val_main_v134,
    val_main_v135, val_main_v136, val_main_cst_32, val_main_call15_v0, val_main_call15_v1, val_main_call15_v2,
    val_main_call15_v3, val_main_v137, val_main_v138, val_main_cst_33, val_main_v139, val_main_v140, val_main_v141,
    val_main_v142, val_main_v143, val_main_v144, val_main_cst_34, val_main_call16_v0, val_main_call16_v1,
    val_main_call16_v2, val_main_call16_v3, val_main_v145, val_main_v146, val_main_cst_35, val_main_v147,
    val_main_v148, val_main_v149, val_main_v150, val_main_v151, val_main_v152, val_main_cst_36, val_main_call17_v0,
    val_main_call17_v1, val_main_call17_v2, val_main_call17_v3, val_main_v153, val_main_v154, val_main_cst_37,
    val_main_v155, val_main_v156, val_main_v157, val_main_v158, val_main_v159, val_main_v160, val_main_cst_38,
    val_main_call18_v0, val_main_call18_v1, val_main_call18_v2, val_main_call18_v3, val_main_v161, val_main_v162,
    val_main_cst_39, val_main_v163, val_main_v164, val_main_v165]
  unfold unmasked
  rw [Chain.label_neg_two]
  exact unsigned_bit _

end Cert.ReferenceElement

end
-- ==== Proof.FittedElement.lean ====
/- The results of the reference with fitted waves at a point, read off its printed operations. -/
module

public import proofs.«01_k».proof.Proof.Chain
public import proofs.«01_k».proof.Proof.Gen.FittedIdeal.Read
public import Idealize.ShloMosaic.Lib.Pipeline.ValueKit

@[expose] public section

set_option maxRecDepth 16384

noncomputable section

namespace Cert.FittedElement

open Idealize.ShloMosaic Idealize.ShloMosaic.TcCoe Idealize.SL.Sem
open Cert.FittedIdeal Cert.FittedIdeal.Read Cert.Element Cert.Row

/-- The fit of the sine, at `t` turns. -/
def sine (t : EReal) : EReal :=
  rest t * (Ideal.ofBits .f32 0x40C90712#32 + rest t * rest t * (Ideal.ofBits .f32 0xC224D0F5#32
    + rest t * rest t * (Ideal.ofBits .f32 0x429D9DEA#32 + rest t * rest t * Ideal.ofBits .f32 0xC268589A#32)))

/-- The fit of the cosine, at `t` turns. -/
def cosine (t : EReal) : EReal :=
  Ideal.ofBits .f32 0x3F7FFD43#32 + rest t * rest t * (Ideal.ofBits .f32 0xC19DD8C4#32
    + rest t * rest t * (Ideal.ofBits .f32 0x428156C1#32 + rest t * rest t * (Ideal.ofBits .f32 0xC2A4C18E#32
      + rest t * rest t * Ideal.ofBits .f32 0x423661D7#32)))

theorem sine_eq (t : EReal) : sineFit (rest t) = sine t := by
  unfold sineFit sine
  generalize rest t = r
  ac_rfl

theorem cosine_eq (t : EReal) : cosineFit (rest t) = cosine t := by
  unfold cosineFit cosine
  generalize rest t = r
  ac_rfl

/-- The first result at a point and a column. -/
def result0 (a0 : Vec Ideal S1024x200x3 .f32) (a1 : Vec Ideal S2x128 .f32) (a2 : Vec Ideal S17x256 .f32)
    (a3 a4 : Vec Ideal S256 .f32) (b : Fin 1024) (n : Fin 200) (e : Fin 256) : EReal :=
  spelled (wave sine cosine
      (fun j => turns (fun d => a0 (ix3 b n ⟨d.val, by omega⟩)) (fun d => a1 (ix2 d j))) e)
    (a0 (ix3 b n 2)) (fun k => a2 (ix2 k e)) (a3 (ix1 e)) (a4 (ix1 e))

theorem no_joint : id (constant (F := Ideal) S_ .f32 0#32) ix0 = 0 := Ideal.ofBits_zero_f32

theorem out_apply (a0 : Vec Ideal S1024x200x3 .f32) (a1 : Vec Ideal S2x128 .f32) (a2 : Vec Ideal S17x256 .f32)
    (a3 a4 : Vec Ideal S256 .f32) (b : Fin 1024) (n : Fin 200) (e : Fin 256) :
    val_main_v184 (F := Ideal) a0 a1 a2 a3 a4 (ix3 b n e) = result0 a0 a1 a2 a3 a4 b n e := by
  pointwise [
    val_main_v0, val_main_v1, val_main_v2, val_main_cst, val_main_v3, val_main_v4, val_main_cst_0, val_main_v5,
    val_main_v6, val_main_v7, val_main_v8, val_main_v9, val_main_v10, val_main_cst_1, val_main_v11, val_main_v12,
    val_main_cst_2, val_main_v13, val_main_v14, val_main_v15, val_main_cst_3, val_main_v16, val_main_v17,
    val_main_v18, val_main_cst_4, val_main_v19, val_main_v20, val_main_v21, val_main_v22, val_main_v23, val_main_v24,
    val_main_cst_5, val_main_v25, val_main_v26, val_main_cst_6, val_main_v27, val_main_v28, val_main_v29,
    val_main_cst_7, val_main_v30, val_main_v31, val_main_v32, val_main_cst_8, val_main_v33, val_main_v34,
    val_main_v35, val_main_cst_9, val_main_v36, val_main_v37, val_main_v38, val_main_cst_10, val_main_v39,
    val_main_v40, val_main_v41, val_main_v42, val_main_call2_v0, val_main_call2_v1, val_main_v43, val_main_cst_11,
    val_main_v44, val_main_v45, val_main_v46, val_main_v47, val_main_call3_v0, val_main_call3_v1, val_main_v48,
    val_main_cst_12, val_main_v49, val_main_v50, val_main_v51, val_main_v52, val_main_v53, val_main_v54,
    val_main_cst_13, val_main_call4_v0, val_main_call4_v1, val_main_call4_v2, val_main_call4_v3, val_main_v55,
    val_main_v56, val_main_cst_14, val_main_v57, val_main_v58, val_main_v59, val_main_v60, val_main_v61,
    val_main_v62, val_main_cst_15, val_main_call5_v0, val_main_call5_v1, val_main_call5_v2, val_main_call5_v3,
    val_main_v63, val_main_v64, val_main_cst_16, val_main_v65, val_main_v66, val_main_v67, val_main_v68,
    val_main_v69, val_main_v70, val_main_cst_17, val_main_call6_v0, val_main_call6_v1, val_main_call6_v2,
    val_main_call6_v3, val_main_v71, val_main_v72, val_main_cst_18, val_main_v73, val_main_v74, val_main_v75,
    val_main_v76, val_main_v77, val_main_v78, val_main_cst_19, val_main_call7_v0, val_main_call7_v1,
    val_main_call7_v2, val_main_call7_v3, val_main_v79, val_main_v80, val_main_cst_20, val_main_v81, val_main_v82,
    val_main_v83, val_main_v84, val_main_v85, val_main_v86, val_main_cst_21, val_main_call8_v0, val_main_call8_v1,
    val_main_call8_v2, val_main_call8_v3, val_main_v87, val_main_v88, val_main_cst_22, val_main_v89, val_main_v90,
    val_main_v91, val_main_v92, val_main_v93, val_main_v94, val_main_cst_23, val_main_call9_v0, val_main_call9_v1,
    val_main_call9_v2, val_main_call9_v3, val_main_v95, val_main_v96, val_main_cst_24, val_main_v97, val_main_v98,
    val_main_v99, val_main_v100, val_main_v101, val_main_v102, val_main_cst_25, val_main_call10_v0,
    val_main_call10_v1, val_main_call10_v2, val_main_call10_v3, val_main_v103, val_main_v104, val_main_cst_26,
    val_main_v105, val_main_v106, val_main_v107, val_main_v108, val_main_v109, val_main_v110, val_main_cst_27,
    val_main_call11_v0, val_main_call11_v1, val_main_call11_v2, val_main_call11_v3, val_main_v111, val_main_v112,
    val_main_cst_28, val_main_v113, val_main_v114, val_main_v115, val_main_v116, val_main_v117, val_main_v118,
    val_main_cst_29, val_main_call12_v0, val_main_call12_v1, val_main_call12_v2, val_main_call12_v3, val_main_v119,
    val_main_v120, val_main_cst_30, val_main_v121, val_main_v122, val_main_v123, val_main_v124, val_main_v125,
    val_main_v126, val_main_cst_31, val_main_call13_v0, val_main_call13_v1, val_main_call13_v2, val_main_call13_v3,
    val_main_v127, val_main_v128, val_main_cst_32, val_main_v129, val_main_v130, val_main_v131, val_main_v132,
    val_main_v133, val_main_v134, val_main_cst_33, val_main_call14_v0, val_main_call14_v1, val_main_call14_v2,
    val_main_call14_v3, val_main_v135, val_main_v136, val_main_cst_34, val_main_v137, val_main_v138, val_main_v139,
    val_main_v140, val_main_v141, val_main_v142, val_main_cst_35, val_main_call15_v0, val_main_call15_v1,
    val_main_call15_v2, val_main_call15_v3, val_main_v143, val_main_v144, val_main_cst_36, val_main_v145,
    val_main_v146, val_main_v147, val_main_v148, val_main_v149, val_main_v150, val_main_cst_37, val_main_call16_v0,
    val_main_call16_v1, val_main_call16_v2, val_main_call16_v3, val_main_v151, val_main_v152, val_main_cst_38,
    val_main_v153, val_main_v154, val_main_v155, val_main_v156, val_main_v157, val_main_v158, val_main_cst_39,
    val_main_call17_v0, val_main_call17_v1, val_main_call17_v2, val_main_call17_v3, val_main_v159, val_main_v160,
    val_main_cst_40, val_main_v161, val_main_v162, val_main_v163, val_main_v164, val_main_v165, val_main_v166,
    val_main_cst_41, val_main_call18_v0, val_main_call18_v1, val_main_call18_v2, val_main_call18_v3, val_main_v167,
    val_main_v168, val_main_cst_42, val_main_v169, val_main_v170, val_main_v171, val_main_v172, val_main_v173,
    val_main_v174, val_main_cst_43, val_main_call19_v0, val_main_call19_v1, val_main_call19_v2, val_main_call19_v3,
    val_main_v175, val_main_v176, val_main_cst_44, val_main_v177, val_main_v178, val_main_v179, val_main_v180,
    val_main_v181, val_main_v182, val_main_cst_45, val_main_call20_v0, val_main_call20_v1, val_main_call20_v2,
    val_main_call20_v3, val_main_v183, val_main_v184, val_main_cst_46, val_main_v185, val_main_v186, val_main_v187]
  exact Chain.spelled_chain _ _ (fun k => a2 (ix2 k e)) _ _ _ no_joint

theorem mask_apply (a0 : Vec Ideal S1024x200x3 .f32) (b : Fin 1024) (n : Fin 200) :
    val_main_v187 (F := Ideal) a0 (ix2 b n) = unmasked (a0 (ix3 b n 2)) := by
  pointwise [
    val_main_v0, val_main_v1, val_main_v2, val_main_cst, val_main_v3, val_main_v4, val_main_cst_0, val_main_v5,
    val_main_v6, val_main_v7, val_main_v8, val_main_v9, val_main_v10, val_main_cst_1, val_main_v11, val_main_v12,
    val_main_cst_2, val_main_v13, val_main_v14, val_main_v15, val_main_cst_3, val_main_v16, val_main_v17,
    val_main_v18, val_main_cst_4, val_main_v19, val_main_v20, val_main_v21, val_main_v22, val_main_v23, val_main_v24,
    val_main_cst_5, val_main_v25, val_main_v26, val_main_cst_6, val_main_v27, val_main_v28, val_main_v29,
    val_main_cst_7, val_main_v30, val_main_v31, val_main_v32, val_main_cst_8, val_main_v33, val_main_v34,
    val_main_v35, val_main_cst_9, val_main_v36, val_main_v37, val_main_v38, val_main_cst_10, val_main_v39,
    val_main_v40, val_main_v41, val_main_v42, val_main_call2_v0, val_main_call2_v1, val_main_v43, val_main_cst_11,
    val_main_v44, val_main_v45, val_main_v46, val_main_v47, val_main_call3_v0, val_main_call3_v1, val_main_v48,
    val_main_cst_12, val_main_v49, val_main_v50, val_main_v51, val_main_v52, val_main_v53, val_main_v54,
    val_main_cst_13, val_main_call4_v0, val_main_call4_v1, val_main_call4_v2, val_main_call4_v3, val_main_v55,
    val_main_v56, val_main_cst_14, val_main_v57, val_main_v58, val_main_v59, val_main_v60, val_main_v61,
    val_main_v62, val_main_cst_15, val_main_call5_v0, val_main_call5_v1, val_main_call5_v2, val_main_call5_v3,
    val_main_v63, val_main_v64, val_main_cst_16, val_main_v65, val_main_v66, val_main_v67, val_main_v68,
    val_main_v69, val_main_v70, val_main_cst_17, val_main_call6_v0, val_main_call6_v1, val_main_call6_v2,
    val_main_call6_v3, val_main_v71, val_main_v72, val_main_cst_18, val_main_v73, val_main_v74, val_main_v75,
    val_main_v76, val_main_v77, val_main_v78, val_main_cst_19, val_main_call7_v0, val_main_call7_v1,
    val_main_call7_v2, val_main_call7_v3, val_main_v79, val_main_v80, val_main_cst_20, val_main_v81, val_main_v82,
    val_main_v83, val_main_v84, val_main_v85, val_main_v86, val_main_cst_21, val_main_call8_v0, val_main_call8_v1,
    val_main_call8_v2, val_main_call8_v3, val_main_v87, val_main_v88, val_main_cst_22, val_main_v89, val_main_v90,
    val_main_v91, val_main_v92, val_main_v93, val_main_v94, val_main_cst_23, val_main_call9_v0, val_main_call9_v1,
    val_main_call9_v2, val_main_call9_v3, val_main_v95, val_main_v96, val_main_cst_24, val_main_v97, val_main_v98,
    val_main_v99, val_main_v100, val_main_v101, val_main_v102, val_main_cst_25, val_main_call10_v0,
    val_main_call10_v1, val_main_call10_v2, val_main_call10_v3, val_main_v103, val_main_v104, val_main_cst_26,
    val_main_v105, val_main_v106, val_main_v107, val_main_v108, val_main_v109, val_main_v110, val_main_cst_27,
    val_main_call11_v0, val_main_call11_v1, val_main_call11_v2, val_main_call11_v3, val_main_v111, val_main_v112,
    val_main_cst_28, val_main_v113, val_main_v114, val_main_v115, val_main_v116, val_main_v117, val_main_v118,
    val_main_cst_29, val_main_call12_v0, val_main_call12_v1, val_main_call12_v2, val_main_call12_v3, val_main_v119,
    val_main_v120, val_main_cst_30, val_main_v121, val_main_v122, val_main_v123, val_main_v124, val_main_v125,
    val_main_v126, val_main_cst_31, val_main_call13_v0, val_main_call13_v1, val_main_call13_v2, val_main_call13_v3,
    val_main_v127, val_main_v128, val_main_cst_32, val_main_v129, val_main_v130, val_main_v131, val_main_v132,
    val_main_v133, val_main_v134, val_main_cst_33, val_main_call14_v0, val_main_call14_v1, val_main_call14_v2,
    val_main_call14_v3, val_main_v135, val_main_v136, val_main_cst_34, val_main_v137, val_main_v138, val_main_v139,
    val_main_v140, val_main_v141, val_main_v142, val_main_cst_35, val_main_call15_v0, val_main_call15_v1,
    val_main_call15_v2, val_main_call15_v3, val_main_v143, val_main_v144, val_main_cst_36, val_main_v145,
    val_main_v146, val_main_v147, val_main_v148, val_main_v149, val_main_v150, val_main_cst_37, val_main_call16_v0,
    val_main_call16_v1, val_main_call16_v2, val_main_call16_v3, val_main_v151, val_main_v152, val_main_cst_38,
    val_main_v153, val_main_v154, val_main_v155, val_main_v156, val_main_v157, val_main_v158, val_main_cst_39,
    val_main_call17_v0, val_main_call17_v1, val_main_call17_v2, val_main_call17_v3, val_main_v159, val_main_v160,
    val_main_cst_40, val_main_v161, val_main_v162, val_main_v163, val_main_v164, val_main_v165, val_main_v166,
    val_main_cst_41, val_main_call18_v0, val_main_call18_v1, val_main_call18_v2, val_main_call18_v3, val_main_v167,
    val_main_v168, val_main_cst_42, val_main_v169, val_main_v170, val_main_v171, val_main_v172, val_main_v173,
    val_main_v174, val_main_cst_43, val_main_call19_v0, val_main_call19_v1, val_main_call19_v2, val_main_call19_v3,
    val_main_v175, val_main_v176, val_main_cst_44, val_main_v177, val_main_v178, val_main_v179, val_main_v180,
    val_main_v181, val_main_v182, val_main_cst_45, val_main_call20_v0, val_main_call20_v1, val_main_call20_v2,
    val_main_call20_v3, val_main_v183, val_main_v184, val_main_cst_46, val_main_v185, val_main_v186, val_main_v187]
  unfold unmasked
  rw [Chain.label_neg_two]
  exact unsigned_bit _

end Cert.FittedElement

end
-- ==== Proof.Tie.lean ====
/- The kernel's results against the two references', a point at a time. -/
module

public import proofs.«01_k».proof.Proof.KernelRun
public import proofs.«01_k».proof.Proof.ReferenceElement
public import proofs.«01_k».proof.Proof.FittedElement

@[expose] public section

set_option maxRecDepth 16384

noncomputable section

namespace Cert.Tie

open Idealize.ShloMosaic Cert.Element Cert.Row Cert.KernelIdeal

variable (a0 : Vec Ideal S1024x200x3 .f32) (a1 : Vec Ideal S2x128 .f32) (a2 : Vec Ideal S17x256 .f32)
  (a3 a4 : Vec Ideal S256 .f32) (b : Fin 1024) (n : Fin 200) (e : Fin 256)

/-- The turns of a point at each column of the projection. -/
def pointTurns (j : Fin 128) : EReal :=
  turns (fun d => a0 (ix3 b n ⟨d.val, by omega⟩)) (fun d => a1 (ix2 d j))

/-- The kernel's first result as the references spell a row. -/
theorem kernel_out (h : Integral (a0 (ix3 b n 2))) : KernelRun.result0 a0 a1 a2 a3 a4 b n e
    = spelled (wave (fun t => sineFit (rest t)) (fun t => cosineFit (rest t)) (pointTurns a0 a1 b n) e)
        (a0 (ix3 b n 2)) (fun k => a2 (ix2 k e)) (a3 (ix1 e)) (a4 (ix1 e)) :=
  encoded_eq _ h _ _ _ _ (by unfold KernelRun.tableRow; rfl) (by unfold KernelRun.tableRow; rfl)
    (fun k => by
      unfold KernelRun.tableRow
      rw [dif_neg (by rw [Fin.val_succ]; omega), dif_neg (by rw [Fin.val_succ, Fin.val_succ]; omega)]
      rfl)

theorem kernel_mask (h : Integral (a0 (ix3 b n 2))) : KernelRun.result1 a0 b n = unmasked (a0 (ix3 b n 2)) :=
  masked_eq h

/-- Against the reference with fitted waves: equal. -/
theorem fitted_out (h : Integral (a0 (ix3 b n 2))) :
    KernelRun.result0 a0 a1 a2 a3 a4 b n e = FittedElement.result0 a0 a1 a2 a3 a4 b n e := by
  rw [kernel_out a0 a1 a2 a3 a4 b n e h, funext FittedElement.sine_eq, funext FittedElement.cosine_eq]
  rfl

/-- A row whose label is negative holds no wave. -/
theorem spelled_negative (w w' : EReal) {l : EReal} (h : Integral l) (hl : l < 0) (joints : Fin 17 → EReal)
    (outside missing : EReal) : spelled w l joints outside missing = spelled w' l joints outside missing := by
  have c : l = ((-1 : ℝ) : EReal) ∨ l = ((-2 : ℝ) : EReal) := by
    obtain ⟨hr, hlow⟩ := h
    induction l with
    | bot => exact absurd hlow (by simp)
    | top => exact absurd hl (by simp)
    | coe r =>
      obtain ⟨z, rfl⟩ : ∃ z : ℤ, r = z := ⟨Ideal.roundHalfEven r, EReal.coe_injective hr⟩
      have h0 : z < 0 := by
        have : ((z : ℤ) : ℝ) < 0 := by exact_mod_cast hl
        exact_mod_cast this
      have h1 : -2 ≤ z := by
        have : (-2 : ℝ) ≤ z := EReal.coe_le_coe_iff.mp hlow
        exact_mod_cast this
      obtain rfl | rfl : z = -1 ∨ z = -2 := by omega
      · left; norm_num
      · right; norm_num
  unfold spelled
  rcases c with rfl | rfl
  · rw [if_pos rfl, if_pos rfl]
  · have k : ((-2 : ℝ) : EReal) ≠ ((-1 : ℝ) : EReal) := fun k => by
      have := EReal.coe_injective k
      norm_num at this
    rw [if_neg k, if_neg k, if_pos rfl, if_pos rfl]

/-- Against the reference: equal on the rows that hold no wave. -/
theorem reference_out (h : Integral (a0 (ix3 b n 2))) (hl : a0 (ix3 b n 2) < 0) :
    KernelRun.result0 a0 a1 a2 a3 a4 b n e = ReferenceElement.result0 a0 a1 a2 a3 a4 b n e := by
  rw [kernel_out a0 a1 a2 a3 a4 b n e h]
  exact spelled_negative _ _ h hl _ _ _

/-- Rows whose waves are within `tol` of each other are. -/
theorem spelled_le {w w' tol : EReal} (ht : 0 ≤ tol) (hw : w ≤ w' + tol) (l : EReal) (joints : Fin 17 → EReal)
    (outside missing : EReal) :
    spelled w l joints outside missing ≤ spelled w' l joints outside missing + tol := by
  unfold spelled
  rw [add_right_comm]
  refine add_le_add ?_ le_rfl
  split_ifs
  · exact le_add_of_nonneg_right ht
  · exact le_add_of_nonneg_right ht
  · exact hw

end Cert.Tie

end
-- ==== Proof.Predicates.lean ====
/- The predicates of the claims, read at a point: what the precondition on labels gives and what
   the selection of rows says. -/
module

public import proofs.«01_k».proof.Proof.ReferenceElement
public import proofs.«01_k».proof.Proof.Gen.Pre_labels_integral
public import proofs.«01_k».proof.Proof.Gen.On_without_waves

@[expose] public section

set_option maxRecDepth 16384

noncomputable section

namespace Cert.Predicates

open Idealize.ShloMosaic Idealize.ShloMosaic.TcCoe Idealize.SL.Sem
open Cert.ReferenceIdeal Cert.ReferenceIdeal.Read Cert.Element Cert.Row

theorem ofBool_iff (p : Prop) [Decidable p] : BitVec.ofBool (decide p) = 1#1 ↔ p := by
  by_cases h : p
  · exact iff_of_true (by rw [decide_eq_true h]; rfl) h
  · exact iff_of_false (by rw [decide_eq_false h]; decide) h

theorem both_iff (p q : Prop) [Decidable p] [Decidable q] :
    IntOp.andi (BitVec.ofBool (decide p)) (BitVec.ofBool (decide q)) = 1#1 ↔ p ∧ q := by
  by_cases h : p <;> by_cases k : q <;> simp [h, k, IntOp.andi]

variable (a0 : Vec Ideal S1024x200x3 .f32) (a1 : Vec Ideal S2x128 .f32) (a2 : Vec Ideal S17x256 .f32)
  (a3 a4 : Vec Ideal S256 .f32)

theorem integral [Cert.Pre_labels_integral.Facts]
    (h : Cert.Pre_labels_integral.fn (F := Ideal) a0 a1 a2 a3 a4 = fun _ => 1#1) (b : Fin 1024) (n : Fin 200) :
    Integral (a0 (ix3 b n 2)) := by
  have e : Cert.Pre_labels_integral.fn (F := Ideal) a0 a1 a2 a3 a4 (ix2 b n) = 1#1 := by rw [h]
  revert e
  pointwise [Cert.Pre_labels_integral.fn, Cert.Pre_labels_integral.fn_round]
  rw [both_iff, Chain.label_neg_two]
  exact id

theorem negative [Cert.On_without_waves.Facts] (b : Fin 1024) (n : Fin 200) (e : Fin 256) :
    (Cert.On_without_waves.fn (F := Ideal) a0 a1 a2 a3 a4).1 (ix3 b n e) = 1#1 → a0 (ix3 b n 2) < 0 := by
  pointwise [Cert.On_without_waves.fn]
  rw [ofBool_iff]
  exact id

end Cert.Predicates

end
-- ==== Proof.Claims.lean ====
/- The claims, from the runs and the equations at a point. -/
module

public import proofs.«01_k».proof.Defs
public import proofs.«01_k».proof.Proof.Tie
public import proofs.«01_k».proof.Proof.Predicates
public import proofs.«01_k».proof.Proof.Gen.Kernel

@[expose] public section

set_option maxRecDepth 16384

noncomputable section

namespace Cert.Claims

open Idealize.ShloMosaic Idealize.ShloMosaic.TcCoe Idealize.SL.Sem

/-- A program of host operations has no semaphore to leave changed. -/
theorem reference_frame : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem fitted_frame : Cert.quiescent_FittedIdeal := fun m ρ _ =>
  (θ_run Cert.FittedIdeal.defs _ _).mono (fun r h => ⟨fun c => (h c).2.2, sem_eq_zero_of_no_sems (by decide) r.2⟩)
    (Cert.FittedIdeal.Value.run (F := Ideal) m ρ)

/-- The kernel and the reference with fitted waves end with equal results. -/
theorem algebraic_fitted : Cert.algebraic_KernelIdeal_FittedIdeal_pre_labels_integral := by
  intro m ρ m' ρ' hpre hagree
  refine ⟨_, _, KernelRun.run m ρ, ?_⟩
  refine (θ_run Cert.FittedIdeal.defs _ _).mono (fun r h c => ⟨?_, ?_, (h c).2.2⟩)
    (Cert.FittedIdeal.Value.run (F := Ideal) m' ρ')
  · refine (h c).1.trans ((Cert.FittedIdeal.Read.val_main_v184_eq _).trans ?_)
    obtain ⟨e0, e1, e2, e3, e4⟩ := hagree c
    simp only [StableHlo.launchContents_devRef, e0, e1, e2, e3, e4]
    funext i
    obtain ⟨b, n, e, rfl⟩ : ∃ (b : Fin 1024) (n : Fin 200) (e : Fin 256), i = ix3 b n e :=
      ⟨i 0, i 1, i 2, eq_ix3 i⟩
    rw [FittedElement.out_apply]
    exact (Tie.fitted_out _ _ _ _ _ b n e (Predicates.integral _ _ _ _ _ (hpre c) b n)).symm
  · refine (h c).2.1.trans ((Cert.FittedIdeal.Read.val_main_v187_eq _).trans ?_)
    obtain ⟨e0, e1, e2, e3, e4⟩ := hagree c
    simp only [StableHlo.launchContents_devRef, e0]
    funext i
    obtain ⟨b, n, rfl⟩ : ∃ (b : Fin 1024) (n : Fin 200), i = ix2 b n := ⟨i 0, i 1, eq_ix2 i⟩
    rw [FittedElement.mask_apply]
    exact (Tie.kernel_mask _ b n (Predicates.integral _ _ _ _ _ (hpre c) b n)).symm

/-- The kernel and the reference end with equal results on the rows that hold no wave, and with equal masks. -/
theorem algebraic_reference : Cert.algebraic_KernelIdeal_ReferenceIdeal_on_without_waves_pre_labels_integral := by
  intro m ρ m' ρ' hpre hagree
  refine ⟨_, _, (θ_run Cert.KernelIdeal.defs _ _).mono (fun r h c =>
    ⟨fun i _ => congrFun (h c).1 i, fun i _ => congrFun (h c).2.1 i, (h c).2.2⟩) (KernelRun.run m ρ), ?_⟩
  refine (θ_run Cert.ReferenceIdeal.defs _ _).mono (fun r h c => ⟨fun i on => ?_, fun i _ => ?_, (h c).2.2⟩)
    (Cert.ReferenceIdeal.Value.run (F := Ideal) m' ρ')
  · refine (congrFun ((h c).1.trans (Cert.ReferenceIdeal.Read.val_main_v162_eq _)) i).trans ?_
    obtain ⟨e0, e1, e2, e3, e4⟩ := hagree c
    simp only [StableHlo.launchContents_devRef, e0, e1, e2, e3, e4]
    obtain ⟨b, n, e, rfl⟩ : ∃ (b : Fin 1024) (n : Fin 200) (e : Fin 256), i = ix3 b n e :=
      ⟨i 0, i 1, i 2, eq_ix3 i⟩
    rw [ReferenceElement.out_apply]
    exact (Tie.reference_out _ _ _ _ _ b n e (Predicates.integral _ _ _ _ _ (hpre c) b n)
      (Predicates.negative _ _ _ _ _ b n e on)).symm
  · refine (congrFun ((h c).2.1.trans (Cert.ReferenceIdeal.Read.val_main_v165_eq _)) i).trans ?_
    obtain ⟨e0, e1, e2, e3, e4⟩ := hagree c
    simp only [StableHlo.launchContents_devRef, e0]
    obtain ⟨b, n, rfl⟩ : ∃ (b : Fin 1024) (n : Fin 200), i = ix2 b n := ⟨i 0, i 1, eq_ix2 i⟩
    rw [ReferenceElement.mask_apply]
    exact (Tie.kernel_mask _ b n (Predicates.integral _ _ _ _ _ (hpre c) b n)).symm

end Cert.Claims

end
-- ==== Proof.Enclosure.lean ====
/- Polynomials with integer coefficients on the unit interval, bounded above by halving the interval: a list of
   coefficients, lowest first, is at most zero there if a finite computation says so. -/
module

public import Mathlib.Data.Real.Basic
public import Mathlib.Tactic.Ring
public import Mathlib.Tactic.Linarith
public import Mathlib.Tactic.Positivity

@[expose] public section

noncomputable section

namespace Cert.Enclosure

/-- The value of a polynomial. -/
def value (t : ℝ) : List ℤ → ℝ
  | [] => 0
  | c :: p => c + t * value t p

/-- An upper bound of its values on the unit interval. -/
def upper : List ℤ → ℤ
  | [] => 0
  | c :: p => if upper p ≤ 0 then c else c + upper p

/-- The sum of two polynomials. -/
def sum : List ℤ → List ℤ → List ℤ
  | [], q => q
  | c :: p, [] => c :: p
  | c :: p, d :: q => (c + d) :: sum p q

/-- The polynomial of `1 + t`. -/
def shift : List ℤ → List ℤ
  | [] => []
  | c :: p => sum [c] (sum (shift p) (0 :: shift p))

/-- The polynomial of `t / 2`, times `2 ^ n`. -/
def half : ℕ → List ℤ → List ℤ
  | _, [] => []
  | n, c :: p => c * 2 ^ n :: half (n - 1) p

/-- The polynomial is bounded by zero on the unit interval, or on either half of it, and so on `n` times. -/
def check : ℕ → List ℤ → Bool
  | 0, p => decide (upper p ≤ 0)
  | n + 1, p => decide (upper p ≤ 0) ||
      (check n (half p.length p) && check n (shift (half p.length p)))

theorem value_le_upper {t : ℝ} (h0 : 0 ≤ t) (h1 : t ≤ 1) (p : List ℤ) : value t p ≤ upper p := by
  induction p with
  | nil => simp [value, upper]
  | cons c p ih =>
    unfold value upper
    split_ifs with h
    · have : (upper p : ℝ) ≤ 0 := by exact_mod_cast h
      have : t * value t p ≤ 0 := mul_nonpos_of_nonneg_of_nonpos h0 (ih.trans this)
      linarith
    · have k : (0 : ℝ) ≤ upper p := by exact_mod_cast (not_le.mp h).le
      have a : t * value t p ≤ t * upper p := mul_le_mul_of_nonneg_left ih h0
      have b : t * (upper p : ℝ) ≤ upper p := mul_le_of_le_one_left k h1
      push_cast
      linarith

theorem value_sum (t : ℝ) (p q : List ℤ) : value t (sum p q) = value t p + value t q := by
  induction p generalizing q with
  | nil => simp [sum, value]
  | cons c p ih =>
    cases q with
    | nil => simp [sum, value]
    | cons d q => simp only [sum, value, ih]; push_cast; ring

theorem value_shift (t : ℝ) (p : List ℤ) : value t (shift p) = value (1 + t) p := by
  induction p with
  | nil => rfl
  | cons c p ih => simp only [shift, value_sum, value, ih]; push_cast; ring

theorem value_half (t : ℝ) (p : List ℤ) (n : ℕ) (h : p.length ≤ n) :
    value t (half n p) = 2 ^ n * value (t / 2) p := by
  induction p generalizing n with
  | nil => simp [half, value]
  | cons c p ih =>
    obtain ⟨n, rfl⟩ : ∃ k, n = k + 1 := ⟨n - 1, by simp at h; omega⟩
    simp only [half, value, Nat.add_sub_cancel]
    rw [ih n (by simpa using h)]
    push_cast
    ring

/-- What the computation shows. -/
theorem check_sound (n : ℕ) (p : List ℤ) (h : check n p = true) {t : ℝ} (h0 : 0 ≤ t) (h1 : t ≤ 1) :
    value t p ≤ 0 := by
  have base (q : List ℤ) (k : upper q ≤ 0) {s : ℝ} (s0 : 0 ≤ s) (s1 : s ≤ 1) : value s q ≤ 0 :=
    (value_le_upper s0 s1 q).trans (by exact_mod_cast k)
  induction n generalizing p t with
  | zero => exact base p (of_decide_eq_true h) h0 h1
  | succ n ih =>
    rw [check, Bool.or_eq_true, Bool.and_eq_true] at h
    rcases h with h | ⟨hl, hr⟩
    · exact base p (of_decide_eq_true h) h0 h1
    · refine nonpos_of_mul_nonpos_right (a := (2 : ℝ) ^ p.length) ?_ (by positivity)
      rcases le_total t (1 / 2) with ht | ht
      · have k := ih _ hl (t := 2 * t) (by linarith) (by linarith)
        rwa [value_half _ _ _ le_rfl, mul_div_cancel_left₀ _ (two_ne_zero)] at k
      · have k := ih _ hr (t := 2 * t - 1) (by linarith) (by linarith)
        rwa [value_shift, value_half _ _ _ le_rfl, add_sub_cancel, mul_div_cancel_left₀ _ (two_ne_zero)] at k

/-- The polynomial's opposite. -/
def opposite : List ℤ → List ℤ
  | [] => []
  | c :: p => -c :: opposite p

theorem value_opposite (t : ℝ) (p : List ℤ) : value t (opposite p) = -value t p := by
  induction p with
  | nil => simp [opposite, value]
  | cons c p ih => simp only [opposite, value, ih]; push_cast; ring

/-- A bound on both sides. -/
theorem bounded (n : ℕ) (c : ℤ) (p : List ℤ)
    (h : (check n (sum p [-c]) && check n (sum (opposite p) [-c])) = true) {t : ℝ} (h0 : 0 ≤ t) (h1 : t ≤ 1) :
    |value t p| ≤ c := by
  rw [Bool.and_eq_true] at h
  have a := check_sound n _ h.1 h0 h1
  have b := check_sound n _ h.2 h0 h1
  rw [value_sum] at a b
  rw [value_opposite] at b
  simp only [value] at a b
  push_cast at a b
  exact abs_le.mpr ⟨by linarith, by linarith⟩

end Cert.Enclosure

end
-- ==== Proof.Taylor.lean ====
/- The sine and the cosine of at most half a turn against their Taylor polynomials of degree 17 and 16, and π between
   two decimals. -/
module

public import Mathlib.Analysis.SpecialFunctions.Trigonometric.Basic
public import Mathlib.Tactic.NormNum

@[expose] public section

noncomputable section

namespace Cert.Taylor

open Finset

/-- The Taylor polynomial of the sine. -/
def sine (x : ℝ) : ℝ := ∑ k ∈ range 9, (-1) ^ k * x ^ (2 * k + 1) / (2 * k + 1).factorial

/-- The Taylor polynomial of the cosine. -/
def cosine (x : ℝ) : ℝ := ∑ k ∈ range 9, (-1) ^ k * x ^ (2 * k) / (2 * k).factorial

/-- The first `2 n` terms of the exponential series at an imaginary number, the even apart from the odd. -/
theorem series (x : ℝ) (n : ℕ) : ∑ m ∈ range (2 * n), ((x : ℂ) * Complex.I) ^ m / m.factorial
    = ((∑ k ∈ range n, (-1) ^ k * x ^ (2 * k) / (2 * k).factorial : ℝ) : ℂ)
      + ((∑ k ∈ range n, (-1) ^ k * x ^ (2 * k + 1) / (2 * k + 1).factorial : ℝ) : ℂ) * Complex.I := by
  induction n with
  | zero => simp
  | succ n ih =>
    have e : ((x : ℂ) * Complex.I) ^ (2 * n) = (-1) ^ n * (x : ℂ) ^ (2 * n) := by
      rw [pow_mul, mul_pow, Complex.I_sq, pow_mul, mul_neg_one, neg_pow]
    rw [show 2 * (n + 1) = 2 * n + 1 + 1 from rfl, sum_range_succ, sum_range_succ, ih, pow_succ _ (2 * n), e,
      sum_range_succ, sum_range_succ]
    push_cast
    ring

/-- The series is within 3e-7 of the exponential up to 3.15. -/
theorem remainder {x : ℝ} (h : |x| ≤ 63 / 20) :
    ‖Complex.exp ((x : ℂ) * Complex.I) - ((cosine x : ℂ) + (sine x : ℂ) * Complex.I)‖ ≤ 3 / 10000000 := by
  have n : ‖(x : ℂ) * Complex.I‖ = |x| := by simp
  unfold cosine sine
  rw [← series]
  refine (Complex.exp_bound' (by rw [n, div_le_iff₀ (by positivity)]; refine h.trans ?_; norm_num)).trans ?_
  rw [n]
  have p : |x| ^ 18 ≤ (63 / 20) ^ 18 := pow_le_pow_left₀ (abs_nonneg x) h 18
  have q : (0 : ℝ) < (Nat.factorial 18 : ℝ) := by positivity
  rw [div_mul_eq_mul_div, div_le_iff₀ q]
  refine (mul_le_mul_of_nonneg_right p (by norm_num)).trans ?_
  norm_num [Nat.factorial]

theorem sine_near {x : ℝ} (h : |x| ≤ 63 / 20) : |Real.sin x - sine x| ≤ 3 / 10000000 := by
  refine le_trans ?_ (remainder h)
  refine le_trans (le_of_eq ?_) (Complex.abs_im_le_norm _)
  rw [Complex.exp_mul_I]
  simp [← Complex.ofReal_sin, ← Complex.ofReal_cos]

theorem cosine_near {x : ℝ} (h : |x| ≤ 63 / 20) : |Real.cos x - cosine x| ≤ 3 / 10000000 := by
  refine le_trans ?_ (remainder h)
  refine le_trans (le_of_eq ?_) (Complex.abs_re_le_norm _)
  rw [Complex.exp_mul_I]
  simp [← Complex.ofReal_sin, ← Complex.ofReal_cos]

/-- The sine is positive short of π. -/
theorem pi_above : (3.141591 : ℝ) < Real.pi := by
  by_contra k
  have a := Real.sin_nonneg_of_nonneg_of_le_pi (x := 3.141591 - Real.pi) (by linarith [not_lt.mp k])
    (by linarith [Real.two_le_pi])
  rw [Real.sin_sub_pi] at a
  have b := abs_le.mp (sine_near (x := 3.141591) (by norm_num [abs_le]))
  have c : (1 : ℝ) / 1000000 < sine 3.141591 := by
    norm_num [sine, sum_range_succ, Nat.factorial]
  linarith [b.1]

/-- The sine is negative past π. -/
theorem pi_below : Real.pi < (3.141594 : ℝ) := by
  by_contra k
  have a := Real.sin_nonneg_of_nonneg_of_le_pi (x := 3.141594) (by norm_num) (not_lt.mp k)
  have b := abs_le.mp (sine_near (x := 3.141594) (by norm_num [abs_le]))
  have c : sine 3.141594 < -(1 : ℝ) / 1000000 := by
    norm_num [sine, sum_range_succ, Nat.factorial]
  linarith [b.2]

/-- A sine is at most twice its small argument. -/
theorem small {z : ℝ} (h : |z| ≤ 1) : |Real.sin z| ≤ 2 * |z| := by
  have b := Real.sin_bound h
  have n := abs_nonneg z
  have p3 : |z| ^ 3 ≤ |z| := pow_le_of_le_one n h (by norm_num)
  have p5 : |z| ^ 5 ≤ |z| := pow_le_of_le_one n h (by norm_num)
  have t : |Real.sin z| ≤ |Real.sin z - (z - z ^ 3 / 6)| + (|z| + |z| ^ 3 / 6) := by
    have e : Real.sin z = (Real.sin z - (z - z ^ 3 / 6)) + (z - z ^ 3 / 6) := by ring
    calc |Real.sin z| = |(Real.sin z - (z - z ^ 3 / 6)) + (z - z ^ 3 / 6)| := by rw [← e]
      _ ≤ _ := abs_add_le _ _
      _ ≤ _ := by
        gcongr
        refine (abs_sub _ _).trans (le_of_eq ?_)
        rw [abs_div, abs_pow]
        norm_num
  linarith

/-- Sines, and cosines, of neighbours. -/
theorem sine_neighbour {x y : ℝ} (h : |x - y| ≤ 2) : |Real.sin x - Real.sin y| ≤ 2 * |x - y| := by
  have hh : |(x - y) / 2| = |x - y| / 2 := by rw [abs_div]; norm_num
  have s := small (z := (x - y) / 2) (by rw [hh]; linarith)
  rw [Real.sin_sub_sin, abs_mul, abs_mul, abs_two]
  have c := Real.abs_cos_le_one ((x + y) / 2)
  have := mul_le_of_le_one_right (by positivity : 0 ≤ 2 * |Real.sin ((x - y) / 2)|) c
  rw [hh] at s
  linarith

theorem cosine_neighbour {x y : ℝ} (h : |x - y| ≤ 2) : |Real.cos x - Real.cos y| ≤ 2 * |x - y| := by
  have e := sine_neighbour (x := x + Real.pi / 2) (y := y + Real.pi / 2) (by rwa [add_sub_add_right_eq_sub])
  rwa [Real.sin_add_pi_div_two, Real.sin_add_pi_div_two, add_sub_add_right_eq_sub] at e

end Cert.Taylor

end
-- ==== Proof.Nearness.lean ====
/- The two fitted polynomials are within 5e-4 of the sine and the cosine of 2πr for r up to half a turn. -/
module

public import proofs.«01_k».proof.Proof.Enclosure
public import proofs.«01_k».proof.Proof.Taylor

@[expose] public section

noncomputable section

namespace Cert.Nearness

open Finset Cert.Enclosure

/-- The polynomial fitted to sin(2πr). -/
def sineFit (r : ℝ) : ℝ :=
  (((-7613517 / 131072 * (r * r) + 5164789 / 65536) * (r * r) + -10801397 / 262144) * (r * r)
    + 6587273 / 1048576) * r

/-- The polynomial fitted to cos(2πr). -/
def cosineFit (r : ℝ) : ℝ :=
  (((11952599 / 262144 * (r * r) + -5398727 / 65536) * (r * r) + 8476353 / 131072) * (r * r)
    + -2586161 / 131072) * (r * r) + 16776515 / 16777216

/-- The common denominator of the coefficients of `sineError`. -/
def sineScale : ℤ := 363590078638423020001998884194658154663556310630400000

/-- The fit less the Taylor polynomial of degree 17, at s half turns, 355/113 standing for π, times `sineScale`. -/
def sineError : List ℤ :=
  [0, -195023437456994303540736511402920042297225320025000, 0,
   6256165908527706357420382292015183080288793998725000, 0,
   -31778432104648415612213392424682590719211615720325000, 0,
   52889234201360109552597611015923578691900344568715625, 0,
   -29867452198150547130874150682585170320480000000000000, 0,
   2679818070235387338773887639647723598800000000000000, 0,
   -169543260973298056274600941476153367500000000000000, 0,
   7968215232635544992525269029357643750000000000000, 0, -289129211340451874969191536206943359375000000000]

theorem sineError_value (s : ℝ) : value s sineError
    = sineScale * (sineFit (s / 2) - Taylor.sine (355 / 113 * s)) := by
  simp only [sineError, sineScale, value, sineFit, Taylor.sine, sum_range_succ, sum_range_zero, Nat.factorial]
  push_cast
  ring

theorem sineError_bounded {s : ℝ} (h0 : 0 ≤ s) (h1 : s ≤ 1) :
    |sineFit (s / 2) - Taylor.sine (355 / 113 * s)| ≤ 99 / 200000 := by
  have k := bounded 6 179977088926019394900989447676355786558460373762048 sineError (by decide +kernel) h0 h1
  have p : (0 : ℝ) < sineScale := by norm_num [sineScale]
  rw [sineError_value, abs_mul, abs_of_pos p] at k
  refine le_of_mul_le_mul_left (k.trans (le_of_eq ?_)) p
  norm_num [sineScale]

/-- The common denominator of the coefficients of `cosineError`. -/
def cosineScale : ℤ := 757085015384535179598123652669772315801262489600000

/-- The fit less the Taylor polynomial of degree 16, at s half turns, 355/113 standing for π, times `cosineScale`. -/
def cosineError : List ℤ :=
  [-31633174168143222385542671711534881197016537500, 0, 1584117892203307979391344356896072744000118800000, 0,
   -12774619899072598230372882053846625426494828100000, 0,
   36420807842950992529414361246956010860067443950000, 0,
   -43322816529632047200572328856201111220917735696875, 0,
   19538027355485839752452536229411737920000000000000, 0, -1460853284276967510568226836248546000000000000000,
   0, 79220035452880314755843602611675000000000000000, 0, -3257793930596640844723284915007812500000000000]

theorem cosineError_value (s : ℝ) : value s cosineError
    = cosineScale * (cosineFit (s / 2) - Taylor.cosine (355 / 113 * s)) := by
  simp only [cosineError, cosineScale, value, cosineFit, Taylor.cosine, sum_range_succ, sum_range_zero, Nat.factorial]
  push_cast
  ring

theorem cosineError_bounded {s : ℝ} (h0 : 0 ≤ s) (h1 : s ≤ 1) :
    |cosineFit (s / 2) - Taylor.cosine (355 / 113 * s)| ≤ 99 / 200000 := by
  have k := bounded 6 374757082615344913901071208071537296321624932352 cosineError (by decide +kernel) h0 h1
  have p : (0 : ℝ) < cosineScale := by norm_num [cosineScale]
  rw [cosineError_value, abs_mul, abs_of_pos p] at k
  refine le_of_mul_le_mul_left (k.trans (le_of_eq ?_)) p
  norm_num [cosineScale]

/-- On half a turn to the right. -/
theorem angle {r : ℝ} (h0 : 0 ≤ r) (h1 : r ≤ 1 / 2) :
    |2 * Real.pi * r - 355 / 113 * (2 * r)| ≤ 2 / 1000000 ∧ |355 / 113 * (2 * r)| ≤ 63 / 20 := by
  have a := Taylor.pi_above
  have b := Taylor.pi_below
  have e : |Real.pi - 355 / 113| ≤ 2 / 1000000 := abs_le.mpr ⟨by linarith, by linarith⟩
  constructor
  · rw [show 2 * Real.pi * r - 355 / 113 * (2 * r) = (Real.pi - 355 / 113) * (2 * r) by ring, abs_mul,
      abs_of_nonneg (by linarith : 0 ≤ 2 * r)]
    exact (mul_le_of_le_one_right (abs_nonneg _) (by linarith)).trans e
  · rw [abs_of_nonneg (by positivity)]
    linarith

theorem triangle {a b c d x y z : ℝ} (h : |a - b| ≤ x) (k : |c - b| ≤ y) (l : |d - c| ≤ z) :
    |a - d| ≤ x + y + z := by
  rw [abs_le] at *
  constructor <;> linarith

theorem sine_right {r : ℝ} (h0 : 0 ≤ r) (h1 : r ≤ 1 / 2) :
    |sineFit r - Real.sin (2 * Real.pi * r)| ≤ 1 / 2000 := by
  have e := sineError_bounded (s := 2 * r) (by linarith) (by linarith)
  rw [mul_div_cancel_left₀ _ (two_ne_zero)] at e
  obtain ⟨a, b⟩ := angle h0 h1
  refine (triangle e (Taylor.sine_near b) (Taylor.sine_neighbour (a.trans (by norm_num)))).trans ?_
  linarith

theorem cosine_right {r : ℝ} (h0 : 0 ≤ r) (h1 : r ≤ 1 / 2) :
    |cosineFit r - Real.cos (2 * Real.pi * r)| ≤ 1 / 2000 := by
  have e := cosineError_bounded (s := 2 * r) (by linarith) (by linarith)
  rw [mul_div_cancel_left₀ _ (two_ne_zero)] at e
  obtain ⟨a, b⟩ := angle h0 h1
  refine (triangle e (Taylor.cosine_near b) (Taylor.cosine_neighbour (a.trans (by norm_num)))).trans ?_
  linarith

/-- On half a turn either side. -/
theorem sine_near {r : ℝ} (h : |r| ≤ 1 / 2) : |sineFit r - Real.sin (2 * Real.pi * r)| ≤ 1 / 2000 := by
  obtain ⟨a, b⟩ := abs_le.mp h
  rcases le_total 0 r with p | p
  · exact sine_right p b
  · have k := sine_right (r := -r) (by linarith) (by linarith)
    rwa [show sineFit (-r) = -sineFit r by unfold sineFit; ring, mul_neg, Real.sin_neg, neg_sub_neg, abs_sub_comm] at k

theorem cosine_near {r : ℝ} (h : |r| ≤ 1 / 2) : |cosineFit r - Real.cos (2 * Real.pi * r)| ≤ 1 / 2000 := by
  obtain ⟨a, b⟩ := abs_le.mp h
  rcases le_total 0 r with p | p
  · exact cosine_right p b
  · have k := cosine_right (r := -r) (by linarith) (by linarith)
    rwa [show cosineFit (-r) = cosineFit r by unfold cosineFit; ring, mul_neg, Real.cos_neg] at k

end Cert.Nearness

end
-- ==== Proof.Near.lean ====
/- The predicates of the claim on nearness, read at a point: what its precondition gives and what its postcondition
   asks. -/
module

public import proofs.«01_k».proof.Proof.Predicates
public import proofs.«01_k».proof.Proof.Gen.Pre_inputs_finite
public import proofs.«01_k».proof.Proof.Gen.Post_near_reference

@[expose] public section

set_option maxRecDepth 16384

noncomputable section

namespace Cert.Predicates

open Idealize.ShloMosaic Idealize.ShloMosaic.TcCoe Idealize.SL.Sem
open Cert.ReferenceIdeal Cert.ReferenceIdeal.Read Cert.Element Cert.Row

/-- The word of positive infinity. -/
theorem infinity : Ideal.ofBits .f32 0x7F800000#32 = ⊤ := by
  simp [Ideal.ofBits, Ideal.ieee]

/-- A number whose absolute value is below infinity is real. -/
theorem real_of_abs {x : EReal} (h : FloatOps.absf (F := Ideal) (φ := .f32) x < ⊤) : ∃ r : ℝ, x = (r : EReal) := by
  induction x with
  | bot => exact absurd h (by show ¬ (max (⊥ : EReal) (-⊥) < ⊤); simp)
  | top => exact absurd h (by show ¬ (max (⊤ : EReal) (-⊤) < ⊤); simp)
  | coe r => exact ⟨r, rfl⟩

variable (a0 : Vec Ideal S1024x200x3 .f32) (a1 : Vec Ideal S2x128 .f32) (a2 : Vec Ideal S17x256 .f32)
  (a3 a4 : Vec Ideal S256 .f32)

theorem finite_integral [Cert.Pre_inputs_finite.Facts]
    (h : (Cert.Pre_inputs_finite.fn (F := Ideal) a0 a1 a2 a3 a4).1 = fun _ => 1#1) (b : Fin 1024) (n : Fin 200) :
    Integral (a0 (ix3 b n 2)) := by
  have e : (Cert.Pre_inputs_finite.fn (F := Ideal) a0 a1 a2 a3 a4).1 (ix2 b n) = 1#1 := by rw [h]
  revert e
  pointwise [Cert.Pre_inputs_finite.fn, Cert.Pre_inputs_finite.fn_round]
  rw [both_iff, Chain.label_neg_two]
  exact id

theorem finite_coords [Cert.Pre_inputs_finite.Facts]
    (h : (Cert.Pre_inputs_finite.fn (F := Ideal) a0 a1 a2 a3 a4).2.1 = fun _ => 1#1) (b : Fin 1024) (n : Fin 200)
    (d : Fin 2) : ∃ r : ℝ, a0 (ix3 b n ⟨d.val, by omega⟩) = (r : EReal) := by
  have e : (Cert.Pre_inputs_finite.fn (F := Ideal) a0 a1 a2 a3 a4).2.1 (ix3 b n d) = 1#1 := by rw [h]
  revert e
  pointwise [Cert.Pre_inputs_finite.fn]
  rw [ofBool_iff, infinity]
  exact real_of_abs

theorem finite_projection [Cert.Pre_inputs_finite.Facts]
    (h : (Cert.Pre_inputs_finite.fn (F := Ideal) a0 a1 a2 a3 a4).2.2 = fun _ => 1#1) (d : Fin 2) (j : Fin 128) :
    ∃ r : ℝ, a1 (ix2 d j) = (r : EReal) := by
  have e : (Cert.Pre_inputs_finite.fn (F := Ideal) a0 a1 a2 a3 a4).2.2 (ix2 d j) = 1#1 := by rw [h]
  revert e
  pointwise [Cert.Pre_inputs_finite.fn]
  rw [ofBool_iff, infinity]
  exact real_of_abs

/-- The postcondition's tolerance. -/
def tolerance : EReal := Ideal.ofBits .f32 0x3A03126F#32

theorem post_out [Cert.Post_near_reference.Facts] (out : Vec Ideal S1024x200x256 .f32)
    (mask : Vec Ideal S1024x200 .f32) : (Cert.Post_near_reference.fn (F := Ideal) a0 a1 a2 a3 a4 out mask).1
      = andi (cmpf (F := Ideal) (φ := .f32) (s := S1024x200x256) .ole out (addf (val_main_v162 (F := Ideal) a0 a1 a2 a3 a4) (fun _ => tolerance)))
        (cmpf (F := Ideal) (φ := .f32) (s := S1024x200x256) .ole (val_main_v162 (F := Ideal) a0 a1 a2 a3 a4) (addf out (fun _ => tolerance))) :=
  rfl

theorem post_mask [Cert.Post_near_reference.Facts] (out : Vec Ideal S1024x200x256 .f32)
    (mask : Vec Ideal S1024x200 .f32) : (Cert.Post_near_reference.fn (F := Ideal) a0 a1 a2 a3 a4 out mask).2
      = cmpf (F := Ideal) (φ := .f32) (s := S1024x200) .oeq mask (val_main_v165 (F := Ideal) a0) :=
  rfl

/-- The postcondition's first part holds where the two results differ by at most the tolerance. -/
theorem post_out_of [Cert.Post_near_reference.Facts] (out : Vec Ideal S1024x200x256 .f32)
    (mask : Vec Ideal S1024x200 .f32) (h : ∀ b n e, out (ix3 b n e) ≤ ReferenceElement.result0 a0 a1 a2 a3 a4 b n e + tolerance
      ∧ ReferenceElement.result0 a0 a1 a2 a3 a4 b n e ≤ out (ix3 b n e) + tolerance) :
    (Cert.Post_near_reference.fn (F := Ideal) a0 a1 a2 a3 a4 out mask).1 = fun _ => 1#1 := by
  rw [post_out]
  funext i
  obtain ⟨b, n, e, rfl⟩ : ∃ (b : Fin 1024) (n : Fin 200) (e : Fin 256), i = ix3 b n e :=
    ⟨i 0, i 1, i 2, eq_ix3 i⟩
  have k := h b n e
  rw [← ReferenceElement.out_apply] at k
  exact (both_iff _ _).mpr k

theorem post_mask_of [Cert.Post_near_reference.Facts] (out : Vec Ideal S1024x200x256 .f32)
    (mask : Vec Ideal S1024x200 .f32) (h : ∀ b n, mask (ix2 b n) = unmasked (a0 (ix3 b n 2))) :
    (Cert.Post_near_reference.fn (F := Ideal) a0 a1 a2 a3 a4 out mask).2 = fun _ => 1#1 := by
  rw [post_mask]
  funext i
  obtain ⟨b, n, rfl⟩ : ∃ (b : Fin 1024) (n : Fin 200), i = ix2 b n := ⟨i 0, i 1, eq_ix2 i⟩
  have k := h b n
  rw [← ReferenceElement.mask_apply] at k
  exact (ofBool_iff _).mpr k

end Cert.Predicates

end
-- ==== Proof.Waves.lean ====
/- The fitted waves of a real number of turns are within the tolerance of the sine and the cosine. -/
module

public import proofs.«01_k».proof.Proof.Nearness
public import proofs.«01_k».proof.Proof.Near
public import proofs.«01_k».proof.Proof.Tie

@[expose] public section

set_option maxRecDepth 16384

noncomputable section

namespace Cert.Waves

open Idealize.ShloMosaic Cert.Element Cert.KernelIdeal

/-- Rounding moves a number by at most a half. -/
theorem round_near (t : ℝ) : |t - (Ideal.roundHalfEven t : ℝ)| ≤ 1 / 2 := by
  have a := Int.floor_le t
  have b := Int.lt_floor_add_one t
  unfold Ideal.roundHalfEven
  simp only
  rw [abs_le]
  split_ifs with h k e
  · constructor <;> linarith
  · push_cast
    constructor <;> linarith
  · constructor <;> linarith [not_lt.mp h, not_lt.mp k]
  · push_cast
    constructor <;> linarith [not_lt.mp h, not_lt.mp k]

theorem rest_real (t : ℝ) : rest (t : EReal) = ((t - (Ideal.roundHalfEven t : ℝ) : ℝ) : EReal) := rfl

theorem constants :
    Ideal.ofBits .f32 0xC268589A#32 = ((-7613517 / 131072 : ℝ) : EReal)
    ∧ Ideal.ofBits .f32 0x429D9DEA#32 = ((5164789 / 65536 : ℝ) : EReal)
    ∧ Ideal.ofBits .f32 0xC224D0F5#32 = ((-10801397 / 262144 : ℝ) : EReal)
    ∧ Ideal.ofBits .f32 0x40C90712#32 = ((6587273 / 1048576 : ℝ) : EReal)
    ∧ Ideal.ofBits .f32 0x423661D7#32 = ((11952599 / 262144 : ℝ) : EReal)
    ∧ Ideal.ofBits .f32 0xC2A4C18E#32 = ((-5398727 / 65536 : ℝ) : EReal)
    ∧ Ideal.ofBits .f32 0x428156C1#32 = ((8476353 / 131072 : ℝ) : EReal)
    ∧ Ideal.ofBits .f32 0xC19DD8C4#32 = ((-2586161 / 131072 : ℝ) : EReal)
    ∧ Ideal.ofBits .f32 0x3F7FFD43#32 = ((16776515 / 16777216 : ℝ) : EReal)
    ∧ Ideal.ofBits .f32 0x40000000#32 = ((2 : ℝ) : EReal)
    ∧ Ideal.ofBits .f32 0x41000000#32 = ((8 : ℝ) : EReal)
    ∧ Predicates.tolerance = ((8589935 / 17179869184 : ℝ) : EReal) := by
  refine ⟨?_, ?_, ?_, ?_, ?_, ?_, ?_, ?_, ?_, ?_, ?_, ?_⟩ <;>
    (try unfold Predicates.tolerance) <;> simp [Ideal.ofBits, Ideal.ieee, -EReal.coe_mul] <;> norm_num

theorem sineFit_real (r : ℝ) : sineFit (r : EReal) = ((Nearness.sineFit r : ℝ) : EReal) := by
  obtain ⟨c3, c2, c1, c0, -⟩ := constants
  unfold sineFit Nearness.sineFit
  rw [c3, c2, c1, c0]
  push_cast
  rfl

theorem cosineFit_real (r : ℝ) : cosineFit (r : EReal) = ((Nearness.cosineFit r : ℝ) : EReal) := by
  obtain ⟨-, -, -, -, c4, c3, c2, c1, c0, -⟩ := constants
  unfold cosineFit Nearness.cosineFit
  rw [c4, c3, c2, c1, c0]
  push_cast
  rfl

/-- The reference's 2π is 2π. -/
theorem twoPi_real : ReferenceElement.twoPi = ((2 * Real.pi : ℝ) : EReal) := by
  obtain ⟨-, -, -, -, -, -, -, -, -, -, e, -⟩ := constants
  have a : Ideal.atan 1 = ((Real.pi / 4 : ℝ) : EReal) :=
    (show Ideal.atan ((1 : ℝ) : EReal) = ((Real.arctan 1 : ℝ) : EReal) from rfl).trans (by rw [Real.arctan_one])
  unfold ReferenceElement.twoPi
  rw [e, a, ← EReal.coe_mul]
  congr 1
  ring

theorem sine_real (t : ℝ) : ReferenceElement.sine (t : EReal)
    = ((Real.sin (2 * Real.pi * (t - (Ideal.roundHalfEven t : ℝ))) : ℝ) : EReal) := by
  unfold ReferenceElement.sine
  rw [twoPi_real, ← EReal.coe_mul, mul_sub, mul_comm (2 * Real.pi) (Ideal.roundHalfEven t : ℝ),
    Real.sin_sub_int_mul_two_pi]
  rfl

theorem cosine_real (t : ℝ) : ReferenceElement.cosine (t : EReal)
    = ((Real.cos (2 * Real.pi * (t - (Ideal.roundHalfEven t : ℝ))) : ℝ) : EReal) := by
  unfold ReferenceElement.cosine
  rw [twoPi_real, ← EReal.coe_mul, mul_sub, mul_comm (2 * Real.pi) (Ideal.roundHalfEven t : ℝ),
    Real.cos_sub_int_mul_two_pi]
  rfl

/-- Two numbers within the tolerance of each other. -/
def Close (x y : EReal) : Prop := x ≤ y + Predicates.tolerance ∧ y ≤ x + Predicates.tolerance

theorem close_real {x y : ℝ} (h : |x - y| ≤ 1 / 2000) : Close (x : EReal) (y : EReal) := by
  obtain ⟨-, -, -, -, -, -, -, -, -, -, -, e⟩ := constants
  obtain ⟨a, b⟩ := abs_le.mp h
  unfold Close
  rw [e, ← EReal.coe_add, ← EReal.coe_add, EReal.coe_le_coe_iff, EReal.coe_le_coe_iff]
  constructor <;> linarith

theorem sine_close (t : ℝ) : Close (sineFit (rest (t : EReal))) (ReferenceElement.sine (t : EReal)) := by
  rw [rest_real, sineFit_real, sine_real]
  exact close_real (Nearness.sine_near (round_near t))

theorem cosine_close (t : ℝ) : Close (cosineFit (rest (t : EReal))) (ReferenceElement.cosine (t : EReal)) := by
  rw [rest_real, cosineFit_real, cosine_real]
  exact close_real (Nearness.cosine_near (round_near t))

/-- Finite coordinates and a finite projection give a real number of turns. -/
theorem turns_real {xy g : Fin 2 → EReal} (hx : ∀ d, ∃ r : ℝ, xy d = r) (hg : ∀ d, ∃ r : ℝ, g d = r) :
    ∃ t : ℝ, turns xy g = t := by
  obtain ⟨-, -, -, -, -, -, -, -, -, e, -⟩ := constants
  choose x hx using hx
  choose y hy using hg
  refine ⟨∑ d : Fin 2, (2 * x d - 1) * y d, ?_⟩
  unfold turns
  simp only [Fin.sum_univ_two, hx, hy, e]
  push_cast
  rfl

/-- Each entry of a row of waves. -/
theorem wave_close {t : Fin 128 → EReal} (h : ∀ j, ∃ r : ℝ, t j = r) (e : Fin 256) :
    Close (wave (fun t => sineFit (rest t)) (fun t => cosineFit (rest t)) t e)
      (wave ReferenceElement.sine ReferenceElement.cosine t e) := by
  unfold wave
  split_ifs with k
  · obtain ⟨r, hr⟩ := h ⟨e.val, k⟩
    simp only [hr]
    exact sine_close r
  · obtain ⟨r, hr⟩ := h ⟨e.val - 128, by omega⟩
    simp only [hr]
    exact cosine_close r

theorem tolerance_nonneg : 0 ≤ Predicates.tolerance := by
  obtain ⟨-, -, -, -, -, -, -, -, -, -, -, e⟩ := constants
  rw [e]
  exact EReal.coe_nonneg.mpr (by norm_num)

variable (a0 : Vec Ideal S1024x200x3 .f32) (a1 : Vec Ideal S2x128 .f32) (a2 : Vec Ideal S17x256 .f32)
  (a3 a4 : Vec Ideal S256 .f32) (b : Fin 1024) (n : Fin 200) (e : Fin 256)

/-- The kernel's first result against the reference's. -/
theorem out_close (h : Row.Integral (a0 (ix3 b n 2)))
    (hx : ∀ d : Fin 2, ∃ r : ℝ, a0 (ix3 b n ⟨d.val, by omega⟩) = (r : EReal))
    (hg : ∀ (d : Fin 2) (j : Fin 128), ∃ r : ℝ, a1 (ix2 d j) = (r : EReal)) :
    Close (KernelRun.result0 a0 a1 a2 a3 a4 b n e) (ReferenceElement.result0 a0 a1 a2 a3 a4 b n e) := by
  rw [Tie.kernel_out a0 a1 a2 a3 a4 b n e h]
  have c := wave_close (t := Tie.pointTurns a0 a1 b n) (fun j => turns_real hx (fun d => hg d j)) e
  exact ⟨Tie.spelled_le tolerance_nonneg c.1 _ _ _ _, Tie.spelled_le tolerance_nonneg c.2 _ _ _ _⟩

end Cert.Waves

end
-- ==== Proof.NearClaim.lean ====
/- The claim on nearness, from the run and the bound at a point. -/
module

public import proofs.«01_k».proof.Defs
public import proofs.«01_k».proof.Proof.Waves

@[expose] public section

set_option maxRecDepth 16384

noncomputable section

namespace Cert.Claims

open Idealize.ShloMosaic Idealize.ShloMosaic.TcCoe Idealize.SL.Sem

/-- On finite inputs the embeddings are within the tolerance of the reference's, and the masks are equal. -/
theorem near_reference : Cert.holds_KernelIdeal_near_reference_pre_inputs_finite := by
  intro m ρ hpre
  refine (θ_run Cert.KernelIdeal.defs _ _).mono (fun r h c => ?_) (KernelRun.run m ρ)
  obtain ⟨hl, hx, hg⟩ := hpre c
  obtain ⟨out, mask, e0, e1, e2, e3, e4⟩ := h c
  have il := Predicates.finite_integral _ _ _ _ _ hl
  refine ⟨e0, e1, e2, e3, e4, ?_, ?_⟩
  · rw [out, mask]
    exact Predicates.post_out_of _ _ _ _ _ _ _ (fun b n e => Waves.out_close _ _ _ _ _ b n e (il b n)
      (Predicates.finite_coords _ _ _ _ _ hx b n) (Predicates.finite_projection _ _ _ _ _ hg))
  · rw [out, mask]
    exact Predicates.post_mask_of _ _ _ _ _ _ _ (fun b n => Tie.kernel_mask _ b n (il b n))

end Cert.Claims

end
-- ==== Proof.lean ====
/- The claim about the keypoint encoder, put together: the frames, that the ideal program is the kernel's, the two
   equations with the references, and the nearness to the plain one. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.FittedIdeal
public import proofs.«01_k».proof.Proof.Gen.Pre_labels_integral
public import proofs.«01_k».proof.Proof.Gen.Pre_inputs_finite
public import proofs.«01_k».proof.Proof.Gen.Post_near_reference
public import proofs.«01_k».proof.Proof.Gen.On_without_waves
public import proofs.«01_k».proof.Proof.Claims
public import proofs.«01_k».proof.Proof.NearClaim

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.FittedIdeal.Gen.facts,
    Cert.Pre_labels_integral.Gen.facts, Cert.Pre_inputs_finite.Gen.facts, Cert.Post_near_reference.Gen.facts,
    Cert.On_without_waves.Gen.facts,
    fun m ρ _ => Cert.Kernel.Gen.frame m ρ,
    fun m ρ _ => Cert.KernelIdeal.Gen.frame m ρ,
    fun m ρ _ => Cert.KernelIdeal.Gen.frame m ρ,
    fun m ρ _ => Cert.KernelIdeal.Gen.frame m ρ,
    Claims.reference_frame,
    fun m ρ _ => Claims.reference_frame m ρ trivial,
    Claims.fitted_frame,
    fun m ρ _ => Claims.fitted_frame m ρ trivial,
    trivial,
    Claims.algebraic_reference,
    Claims.algebraic_fitted,
    Claims.near_reference⟩

end Cert.Proof

end
